-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_formed [hPre_well_formed : Cert.Pre_well_formed.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_well_formed [hKernelIdeal : Cert.KernelIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_formed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_well_formed [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_well_formed [hKernelIdeal : Cert.KernelIdeal.Facts] [hReferenceIdeal : Cert.ReferenceIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_formed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v207) = v0 c
          ∧ r.2.mem ((c.tc : Thread Cert.ReferenceIdeal.nD Cert.ReferenceIdeal.τ).loc Cert.ReferenceIdeal.main_v209) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_well_formed : Cert.Pre_well_formed.Facts),
    quiescent_Kernel (hKernel := hKernel)
    ∧ quiescent_KernelIdeal (hKernelIdeal := hKernelIdeal)
    ∧ quiescent_KernelIdeal_pre_well_formed (hKernelIdeal := hKernelIdeal) (hPre_well_formed := hPre_well_formed)
    ∧ quiescent_ReferenceIdeal (hReferenceIdeal := hReferenceIdeal)
    ∧ quiescent_ReferenceIdeal_pre_well_formed (hReferenceIdeal := hReferenceIdeal) (hPre_well_formed := hPre_well_formed)
    ∧ preserves_Kernel_KernelIdeal
    ∧ algebraic_KernelIdeal_ReferenceIdeal_pre_well_formed (hKernelIdeal := hKernelIdeal) (hReferenceIdeal := hReferenceIdeal) (hPre_well_formed := hPre_well_formed)
-- ==== Pre_well_formed.lean ====
abbrev S16x2048x3 : Shape := ⟨3, ![16, 2048, 3]⟩
abbrev S16x64 : Shape := ⟨2, ![16, 64]⟩
abbrev S32 : Shape := ⟨1, ![32]⟩
abbrev S32x4 : Shape := ⟨2, ![32, 4]⟩
abbrev S8x8x3 : Shape := ⟨3, ![8, 8, 3]⟩
abbrev S8x8x11 : Shape := ⟨3, ![8, 8, 11]⟩
abbrev S1x5 : Shape := ⟨2, ![1, 5]⟩
abbrev S8x8x1 : Shape := ⟨3, ![8, 8, 1]⟩
abbrev S8x8 : Shape := ⟨2, ![8, 8]⟩
abbrev S_ : Shape := ⟨0, ![]⟩

class Facts : Prop where
  slices_S8x8x3_S8x8x1_0_0_1 : S8x8x3.Slices ![0, 0, 1] S8x8x1
  shapeCasts_S8x8x1_S8x8 : S8x8x1.ShapeCasts S8x8
  bcast_S_S8x8 : S_.BroadcastsInDim S8x8 (![] : Fin 0 → Fin S8x8.rank)
  reducesTo_S8x8_S_d0_1 : S8x8.ReducesTo [0, 1] S_
  h_S_ : 0 < S_.numel
  bcast_S_S8x8x11 : S_.BroadcastsInDim S8x8x11 (![] : Fin 0 → Fin S8x8x11.rank)
  reducesTo_S8x8x11_S_d0_1_2 : S8x8x11.ReducesTo [0, 1, 2] S_
  bcast_S_S16x64 : S_.BroadcastsInDim S16x64 (![] : Fin 0 → Fin S16x64.rank)
  reducesTo_S16x64_S_d0_1 : S16x64.ReducesTo [0, 1] S_
  bcast_S_S32x4 : S_.BroadcastsInDim S32x4 (![] : Fin 0 → Fin S32x4.rank)
  reducesTo_S32x4_S_d0_1 : S32x4.ReducesTo [0, 1] S_

variable [Facts]

def fn_part2 {F : FTy → Type} [FloatOps F] (main_arg6 : IVec S32x4 32) (main_arg7 : IVec S32x4 32) (main_v31 : IVec S_ 1) (main_v33 : IVec S32x4 1) : IVec S_ 1 :=
  let main_c_12 : IVec S_ 32 := constantI S_ 32 8#32
  let main_v34 : IVec S32x4 32 := broadcastInDim S32x4 ![] bcast_S_S32x4 main_c_12
  let main_v35 : IVec S32x4 1 := cmpi .slt main_arg6 main_v34
  let main_v36 : IVec S32x4 1 := andi main_v33 main_v35
  let main_c_13 : IVec S_ 1 := constantI S_ 1 1#1
  let main_v37 : IVec S_ 1 := (fun x v => Host.reduce IntOp.andi x v reducesTo_S32x4_S_d0_1 h_S_) main_v36 main_c_13
  let main_v38 : IVec S_ 1 := andi main_v31 main_v37
  let main_c_14 : IVec S_ 32 := constantI S_ 32 0#32
  let main_v39 : IVec S32x4 32 := broadcastInDim S32x4 ![] bcast_S_S32x4 main_c_14
  let main_v40 : IVec S32x4 1 := cmpi .sge main_arg7 main_v39
  let main_c_15 : IVec S_ 32 := constantI S_ 32 8#32
  let main_v41 : IVec S32x4 32 := broadcastInDim S32x4 ![] bcast_S_S32x4 main_c_15
  let main_v42 : IVec S32x4 1 := cmpi .slt main_arg7 main_v41
  let main_v43 : IVec S32x4 1 := andi main_v40 main_v42
  let main_c_16 : IVec S_ 1 := constantI S_ 1 1#1
  let main_v44 : IVec S_ 1 := (fun x v => Host.reduce IntOp.andi x v reducesTo_S32x4_S_d0_1 h_S_) main_v43 main_c_16
  let main_v45 : IVec S_ 1 := andi main_v38 main_v44
  main_v45

def fn_part1 {F : FTy → Type} [FloatOps F] (main_arg4 : IVec S32x4 32) (main_arg5 : IVec S32x4 32) (main_arg6 : IVec S32x4 32) (main_arg7 : IVec S32x4 32) (main_v10 : IVec S_ 1) (main_v16 : IVec S_ 1) : IVec S_ 1 :=
  let main_v17 : IVec S_ 1 := andi main_v10 main_v16
  let main_c_5 : IVec S_ 32 := constantI S_ 32 0#32
  let main_v18 : IVec S32x4 32 := broadcastInDim S32x4 ![] bcast_S_S32x4 main_c_5
  let main_v19 : IVec S32x4 1 := cmpi .sge main_arg4 main_v18
  let main_c_6 : IVec S_ 32 := constantI S_ 32 32#32
  let main_v20 : IVec S32x4 32 := broadcastInDim S32x4 ![] bcast_S_S32x4 main_c_6
  let main_v21 : IVec S32x4 1 := cmpi .slt main_arg4 main_v20
  let main_v22 : IVec S32x4 1 := andi main_v19 main_v21
  let main_c_7 : IVec S_ 1 := constantI S_ 1 1#1
  let main_v23 : IVec S_ 1 := (fun x v => Host.reduce IntOp.andi x v reducesTo_S32x4_S_d0_1 h_S_) main_v22 main_c_7
  let main_v24 : IVec S_ 1 := andi main_v17 main_v23
  let main_c_8 : IVec S_ 32 := constantI S_ 32 0#32
  let main_v25 : IVec S32x4 32 := broadcastInDim S32x4 ![] bcast_S_S32x4 main_c_8
  let main_v26 : IVec S32x4 1 := cmpi .sge main_arg5 main_v25
  let main_c_9 : IVec S_ 32 := constantI S_ 32 32#32
  let main_v27 : IVec S32x4 32 := broadcastInDim S32x4 ![] bcast_S_S32x4 main_c_9
  let main_v28 : IVec S32x4 1 := cmpi .slt main_arg5 main_v27
  let main_v29 : IVec S32x4 1 := andi main_v26 main_v28
  let main_c_10 : IVec S_ 1 := constantI S_ 1 1#1
  let main_v30 : IVec S_ 1 := (fun x v => Host.reduce IntOp.andi x v reducesTo_S32x4_S_d0_1 h_S_) main_v29 main_c_10
  let main_v31 : IVec S_ 1 := andi main_v24 main_v30
  let main_c_11 : IVec S_ 32 := constantI S_ 32 0#32
  let main_v32 : IVec S32x4 32 := broadcastInDim S32x4 ![] bcast_S_S32x4 main_c_11
  let main_v33 : IVec S32x4 1 := cmpi .sge main_arg6 main_v32
  fn_part2 (F := F) main_arg6 main_arg7 main_v31 main_v33

def fn {F : FTy → Type} [FloatOps F] (main_arg0 : FVec F S16x2048x3 .f32) (main_arg1 : IVec S16x64 32) (main_arg2 : IVec S32 32) (main_arg3 : IVec S32 32) (main_arg4 : IVec S32x4 32) (main_arg5 : IVec S32x4 32) (main_arg6 : IVec S32x4 32) (main_arg7 : IVec S32x4 32) (main_arg8 : FVec F S8x8x3 .f32) (main_arg9 : FVec F S8x8x11 .f32) (main_arg10 : FVec F S1x5 .f32) : IVec S_ 1 :=
  let main_v0 : FVec F S8x8x1 .f32 := (extractStridedSlice S8x8x1 ![0, 0, 1] · slices_S8x8x3_S8x8x1_0_0_1) main_arg8
  let main_v1 : FVec F S8x8 .f32 := shapeCast S8x8 main_v0 shapeCasts_S8x8x1_S8x8
  let main_v2 : FVec F S8x8 .f32 := Host.absf main_v1
  let main_cst : FVec F S_ .f32 := constant S_ .f32 0x7F800000#32
  let main_v3 : FVec F S8x8 .f32 := broadcastInDim S8x8 ![] bcast_S_S8x8 main_cst
  let main_v4 : IVec S8x8 1 := cmpf .olt main_v2 main_v3
  let main_c : IVec S_ 1 := constantI S_ 1 1#1
  let main_v5 : IVec S_ 1 := (fun x v => Host.reduce IntOp.andi x v reducesTo_S8x8_S_d0_1 h_S_) main_v4 main_c
  let main_v6 : FVec F S8x8x11 .f32 := Host.absf main_arg9
  let main_cst_0 : FVec F S_ .f32 := constant S_ .f32 0x7F800000#32
  let main_v7 : FVec F S8x8x11 .f32 := broadcastInDim S8x8x11 ![] bcast_S_S8x8x11 main_cst_0
  let main_v8 : IVec S8x8x11 1 := cmpf .olt main_v6 main_v7
  let main_c_1 : IVec S_ 1 := constantI S_ 1 1#1
  let main_v9 : IVec S_ 1 := (fun x v => Host.reduce IntOp.andi x v reducesTo_S8x8x11_S_d0_1_2 h_S_) main_v8 main_c_1
  let main_v10 : IVec S_ 1 := andi main_v5 main_v9
  let main_c_2 : IVec S_ 32 := constantI S_ 32 0#32
  let main_v11 : IVec S16x64 32 := broadcastInDim S16x64 ![] bcast_S_S16x64 main_c_2
  let main_v12 : IVec S16x64 1 := cmpi .sge main_arg1 main_v11
  let main_c_3 : IVec S_ 32 := constantI S_ 32 32#32
  let main_v13 : IVec S16x64 32 := broadcastInDim S16x64 ![] bcast_S_S16x64 main_c_3
  let main_v14 : IVec S16x64 1 := cmpi .slt main_arg1 main_v13
  let main_v15 : IVec S16x64 1 := andi main_v12 main_v14
  let main_c_4 : IVec S_ 1 := constantI S_ 1 1#1
  let main_v16 : IVec S_ 1 := (fun x v => Host.reduce IntOp.andi x v reducesTo_S16x64_S_d0_1 h_S_) main_v15 main_c_4
  fn_part1 (F := F) main_arg4 main_arg5 main_arg6 main_arg7 main_v10 main_v16
-- ==== Kernel.lean ====
abbrev S16x2048x3 : Shape := ⟨3, ![16, 2048, 3]⟩
abbrev S16x64 : Shape := ⟨2, ![16, 64]⟩
abbrev S32 : Shape := ⟨1, ![32]⟩
abbrev S32x4 : Shape := ⟨2, ![32, 4]⟩
abbrev S8x8x3 : Shape := ⟨3, ![8, 8, 3]⟩
abbrev S8x8x11 : Shape := ⟨3, ![8, 8, 11]⟩
abbrev S1x5 : Shape := ⟨2, ![1, 5]⟩
abbrev S16x64x96 : Shape := ⟨3, ![16, 64, 96]⟩
abbrev S16x64x288 : Shape := ⟨3, ![16, 64, 288]⟩
abbrev S16x64x1 : Shape := ⟨3, ![16, 64, 1]⟩
abbrev S16x1x64 : Shape := ⟨3, ![16, 1, 64]⟩
abbrev S128x1 : Shape := ⟨2, ![128, 1]⟩
abbrev S32x1 : Shape := ⟨2, ![32, 1]⟩
abbrev S128 : Shape := ⟨1, ![128]⟩
abbrev S1x8 : Shape := ⟨2, ![1, 8]⟩
abbrev S128x8 : Shape := ⟨2, ![128, 8]⟩
abbrev S128x11 : Shape := ⟨2, ![128, 11]⟩
abbrev S128x10 : Shape := ⟨2, ![128, 10]⟩
abbrev S10x128 : Shape := ⟨2, ![10, 128]⟩
abbrev S8x11x8 : Shape := ⟨3, ![8, 11, 8]⟩
abbrev S8x3x8 : Shape := ⟨3, ![8, 3, 8]⟩
abbrev S8x2x8 : Shape := ⟨3, ![8, 2, 8]⟩
abbrev S8x13x8 : Shape := ⟨3, ![8, 13, 8]⟩
abbrev S8x104 : Shape := ⟨2, ![8, 104]⟩
abbrev S8x312 : Shape := ⟨2, ![8, 312]⟩
abbrev S16x1x128 : Shape := ⟨3, ![16, 1, 128]⟩
abbrev S2x64x288 : Shape := ⟨3, ![2, 64, 288]⟩
abbrev S2x64x1 : Shape := ⟨3, ![2, 64, 1]⟩
abbrev S2x1x64 : Shape := ⟨3, ![2, 1, 64]⟩
abbrev S2x1x128 : Shape := ⟨3, ![2, 1, 128]⟩
abbrev S1x64x288 : Shape := ⟨3, ![1, 64, 288]⟩
abbrev S64x288 : Shape := ⟨2, ![64, 288]⟩
abbrev S1x64x1 : Shape := ⟨3, ![1, 64, 1]⟩
abbrev S64x1 : Shape := ⟨2, ![64, 1]⟩
abbrev S1x1x64 : Shape := ⟨3, ![1, 1, 64]⟩
abbrev S1x64 : Shape := ⟨2, ![1, 64]⟩
abbrev S256x64 : Shape := ⟨2, ![256, 64]⟩
abbrev S256x1 : Shape := ⟨2, ![256, 1]⟩
abbrev S256x128 : Shape := ⟨2, ![256, 128]⟩
abbrev S256x11 : Shape := ⟨2, ![256, 11]⟩
abbrev S256x8 : Shape := ⟨2, ![256, 8]⟩
abbrev S64x256 : Shape := ⟨2, ![64, 256]⟩
abbrev S1x256 : Shape := ⟨2, ![1, 256]⟩
abbrev S128x256 : Shape := ⟨2, ![128, 256]⟩
abbrev S10x256 : Shape := ⟨2, ![10, 256]⟩
abbrev S8x256 : Shape := ⟨2, ![8, 256]⟩
abbrev S256x288 : Shape := ⟨2, ![256, 288]⟩
abbrev S288x9 : Shape := ⟨2, ![288, 9]⟩
abbrev S256x9 : Shape := ⟨2, ![256, 9]⟩
abbrev S9x256 : Shape := ⟨2, ![9, 256]⟩
abbrev S256x256 : Shape := ⟨2, ![256, 256]⟩
abbrev S256x312 : Shape := ⟨2, ![256, 312]⟩
abbrev S256x104 : Shape := ⟨2, ![256, 104]⟩
abbrev S768x104 : Shape := ⟨2, ![768, 104]⟩
abbrev S768x8 : Shape := ⟨2, ![768, 8]⟩
abbrev S768x256 : Shape := ⟨2, ![768, 256]⟩
abbrev S1x1 : Shape := ⟨2, ![1, 1]⟩
abbrev S1x256x256 : Shape := ⟨3, ![1, 256, 256]⟩
abbrev S1 : Shape := ⟨1, ![1]⟩
abbrev S1x1x1 : Shape := ⟨3, ![1, 1, 1]⟩
abbrev S1x128 : Shape := ⟨2, ![1, 128]⟩
abbrev S1x1x128 : Shape := ⟨3, ![1, 1, 128]⟩
abbrev S16x1x1 : Shape := ⟨3, ![16, 1, 1]⟩
abbrev S16 : Shape := ⟨1, ![16]⟩

abbrev nBuf : Space → Nat
  | .hbm => 77
  | .vmem => 14
  | .smem => 0
  | _ => 0

abbrev bufTy : (tb : Table) → Fin (tcTables nBuf tb) → BufTy
  | .hbm, ⟨0, _⟩ => ⟨S16x2048x3, .f32⟩
  | .hbm, ⟨1, _⟩ => ⟨S16x64, .i32⟩
  | .hbm, ⟨2, _⟩ => ⟨S32, .i32⟩
  | .hbm, ⟨3, _⟩ => ⟨S32, .i32⟩
  | .hbm, ⟨4, _⟩ => ⟨S32x4, .i32⟩
  | .hbm, ⟨5, _⟩ => ⟨S32x4, .i32⟩
  | .hbm, ⟨6, _⟩ => ⟨S32x4, .i32⟩
  | .hbm, ⟨7, _⟩ => ⟨S32x4, .i32⟩
  | .hbm, ⟨8, _⟩ => ⟨S8x8x3, .f32⟩
  | .hbm, ⟨9, _⟩ => ⟨S8x8x11, .f32⟩
  | .hbm, ⟨10, _⟩ => ⟨S1x5, .f32⟩
  | .hbm, ⟨11, _⟩ => ⟨S16x64x96, .f32⟩
  | .hbm, ⟨12, _⟩ => ⟨S16x64x96, .bf16⟩
  | .hbm, ⟨13, _⟩ => ⟨S16x64x96, .f32⟩
  | .hbm, ⟨14, _⟩ => ⟨S16x64x96, .f32⟩
  | .hbm, ⟨15, _⟩ => ⟨S16x64x96, .bf16⟩
  | .hbm, ⟨16, _⟩ => ⟨S16x64x96, .f32⟩
  | .hbm, ⟨17, _⟩ => ⟨S16x64x96, .f32⟩
  | .hbm, ⟨18, _⟩ => ⟨S16x64x288, .f32⟩
  | .hbm, ⟨19, _⟩ => ⟨S16x64x288, .bf16⟩
  | .hbm, ⟨20, _⟩ => ⟨S16x64, .bf16⟩
  | .hbm, ⟨21, _⟩ => ⟨S16x64x1, .bf16⟩
  | .hbm, ⟨22, _⟩ => ⟨S16x1x64, .bf16⟩
  | .hbm, ⟨23, _⟩ => ⟨S32x4, .f32⟩
  | .hbm, ⟨24, _⟩ => ⟨S128x1, .f32⟩
  | .hbm, ⟨25, _⟩ => ⟨S32x1, .i32⟩
  | .hbm, ⟨26, _⟩ => ⟨S32x1, .f32⟩
  | .hbm, ⟨27, _⟩ => ⟨S32x4, .f32⟩
  | .hbm, ⟨28, _⟩ => ⟨S128x1, .f32⟩
  | .hbm, ⟨29, _⟩ => ⟨S128, .i32⟩
  | .hbm, ⟨30, _⟩ => ⟨S128x1, .i32⟩
  | .hbm, ⟨31, _⟩ => ⟨S1x8, .i32⟩
  | .hbm, ⟨32, _⟩ => ⟨S128x8, .i32⟩
  | .hbm, ⟨33, _⟩ => ⟨S128x8, .i32⟩
  | .hbm, ⟨34, _⟩ => ⟨S128x8, .i1⟩
  | .hbm, ⟨35, _⟩ => ⟨S128x8, .f32⟩
  | .hbm, ⟨36, _⟩ => ⟨S32x4, .f32⟩
  | .hbm, ⟨37, _⟩ => ⟨S128x1, .f32⟩
  | .hbm, ⟨38, _⟩ => ⟨S128x11, .f32⟩
  | .hbm, ⟨39, _⟩ => ⟨S128x11, .bf16⟩
  | .hbm, ⟨40, _⟩ => ⟨S32x4, .f32⟩
  | .hbm, ⟨41, _⟩ => ⟨S128x1, .f32⟩
  | .hbm, ⟨42, _⟩ => ⟨S32x1, .i32⟩
  | .hbm, ⟨43, _⟩ => ⟨S32x1, .f32⟩
  | .hbm, ⟨44, _⟩ => ⟨S32x4, .f32⟩
  | .hbm, ⟨45, _⟩ => ⟨S128x1, .f32⟩
  | .hbm, ⟨46, _⟩ => ⟨S128, .i32⟩
  | .hbm, ⟨47, _⟩ => ⟨S128x1, .i32⟩
  | .hbm, ⟨48, _⟩ => ⟨S1x8, .i32⟩
  | .hbm, ⟨49, _⟩ => ⟨S128x8, .i32⟩
  | .hbm, ⟨50, _⟩ => ⟨S128x8, .i32⟩
  | .hbm, ⟨51, _⟩ => ⟨S128x8, .i1⟩
  | .hbm, ⟨52, _⟩ => ⟨S128x8, .f32⟩
  | .hbm, ⟨53, _⟩ => ⟨S128x10, .f32⟩
  | .hbm, ⟨54, _⟩ => ⟨S10x128, .f32⟩
  | .hbm, ⟨55, _⟩ => ⟨S10x128, .bf16⟩
  | .hbm, ⟨56, _⟩ => ⟨S8x11x8, .f32⟩
  | .hbm, ⟨57, _⟩ => ⟨S8x3x8, .f32⟩
  | .hbm, ⟨58, _⟩ => ⟨S8x2x8, .f32⟩
  | .hbm, ⟨59, _⟩ => ⟨S8x13x8, .f32⟩
  | .hbm, ⟨60, _⟩ => ⟨S8x13x8, .bf16⟩
  | .hbm, ⟨61, _⟩ => ⟨S8x13x8, .f32⟩
  | .hbm, ⟨62, _⟩ => ⟨S8x13x8, .f32⟩
  | .hbm, ⟨63, _⟩ => ⟨S8x13x8, .bf16⟩
  | .hbm, ⟨64, _⟩ => ⟨S8x13x8, .f32⟩
  | .hbm, ⟨65, _⟩ => ⟨S8x13x8, .f32⟩
  | .hbm, ⟨66, _⟩ => ⟨S8x104, .f32⟩
  | .hbm, ⟨67, _⟩ => ⟨S8x104, .f32⟩
  | .hbm, ⟨68, _⟩ => ⟨S8x104, .f32⟩
  | .hbm, ⟨69, _⟩ => ⟨S8x312, .f32⟩
  | .hbm, ⟨70, _⟩ => ⟨S8x312, .bf16⟩
  | .hbm, ⟨71, _⟩ => ⟨S16x1x128, .f32⟩
  | .hbm, ⟨72, _⟩ => ⟨S16x1x128, .i32⟩
  | .hbm, ⟨73, _⟩ => ⟨S16x1x1, .f32⟩
  | .hbm, ⟨74, _⟩ => ⟨S16, .f32⟩
  | .hbm, ⟨75, _⟩ => ⟨S16x1x1, .i32⟩
  | .hbm, ⟨76, _⟩ => ⟨S16, .i32⟩
  | .local _ .vmem, ⟨0, _⟩ => ⟨S2x64x288, .bf16⟩
  | .local _ .vmem, ⟨1, _⟩ => ⟨S2x64x288, .bf16⟩
  | .local _ .vmem, ⟨2, _⟩ => ⟨S2x64x1, .bf16⟩
  | .local _ .vmem, ⟨3, _⟩ => ⟨S2x64x1, .bf16⟩
  | .local _ .vmem, ⟨4, _⟩ => ⟨S2x1x64, .bf16⟩
  | .local _ .vmem, ⟨5, _⟩ => ⟨S2x1x64, .bf16⟩
  | .local _ .vmem, ⟨6, _⟩ => ⟨S128x11, .bf16⟩
  | .local _ .vmem, ⟨7, _⟩ => ⟨S10x128, .bf16⟩
  | .local _ .vmem, ⟨8, _⟩ => ⟨S8x312, .bf16⟩
  | .local _ .vmem, ⟨9, _⟩ => ⟨S1x5, .f32⟩
  | .local _ .vmem, ⟨10, _⟩ => ⟨S2x1x128, .f32⟩
  | .local _ .vmem, ⟨11, _⟩ => ⟨S2x1x128, .f32⟩
  | .local _ .vmem, ⟨12, _⟩ => ⟨S2x1x128, .i32⟩
  | .local _ .vmem, ⟨13, _⟩ => ⟨S2x1x128, .i32⟩
  | _, _ => ⟨S16x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50_0 : Ref sig .tc := ⟨.hbm, 71, rfl⟩
abbrev main_v50_1 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x1 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x11 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x312 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16x2048x3 : Shape := ⟨3, ![16, 2048, 3]⟩
abbrev S16x64 : Shape := ⟨2, ![16, 64]⟩
abbrev S32 : Shape := ⟨1, ![32]⟩
abbrev S32x4 : Shape := ⟨2, ![32, 4]⟩
abbrev S8x8x3 : Shape := ⟨3, ![8, 8, 3]⟩
abbrev S8x8x11 : Shape := ⟨3, ![8, 8, 11]⟩
abbrev S1x5 : Shape := ⟨2, ![1, 5]⟩
abbrev S_ : Shape := ⟨0, ![]⟩
abbrev S16x64x1 : Shape := ⟨3, ![16, 64, 1]⟩
abbrev S16x64x4 : Shape := ⟨3, ![16, 64, 4]⟩
abbrev S16x256 : Shape := ⟨2, ![16, 256]⟩
abbrev S64 : Shape := ⟨1, ![64]⟩
abbrev S1x64x1 : Shape := ⟨3, ![1, 64, 1]⟩
abbrev S16 : Shape := ⟨1, ![16]⟩
abbrev S16x1 : Shape := ⟨2, ![16, 1]⟩
abbrev S16x256x1 : Shape := ⟨3, ![16, 256, 1]⟩
abbrev S16x256x2 : Shape := ⟨3, ![16, 256, 2]⟩
abbrev S16x256x3 : Shape := ⟨3, ![16, 256, 3]⟩
abbrev S4 : Shape := ⟨1, ![4]⟩
abbrev S1x1x4 : Shape := ⟨3, ![1, 1, 4]⟩
abbrev S16x256x1x3 : Shape := ⟨4, ![16, 256, 1, 3]⟩
abbrev S16x1x256x3 : Shape := ⟨4, ![16, 1, 256, 3]⟩
abbrev S16x256x256x3 : Shape := ⟨4, ![16, 256, 256, 3]⟩
abbrev S16x256x256 : Shape := ⟨3, ![16, 256, 256]⟩
abbrev S16x1x256 : Shape := ⟨3, ![16, 1, 256]⟩
abbrev S16x256x256x1 : Shape := ⟨4, ![16, 256, 256, 1]⟩
abbrev S16x256x256x2 : Shape := ⟨4, ![16, 256, 256, 2]⟩
abbrev S16x256x256x11 : Shape := ⟨4, ![16, 256, 256, 11]⟩
abbrev S1x1 : Shape := ⟨2, ![1, 1]⟩
abbrev S16x65536 : Shape := ⟨2, ![16, 65536]⟩

abbrev nBuf : Space → Nat
  | .hbm => 262
  | .vmem => 0
  | .smem => 0
  | _ => 0

abbrev hbmTy0_0 (i : Nat) : BufTy := match i % 128 with
  | 0 => ⟨S16x2048x3, .f32⟩
  | 1 => ⟨S16x64, .i32⟩
  | 2 => ⟨S32, .i32⟩
  | 3 => ⟨S32, .i32⟩
  | 4 => ⟨S32x4, .i32⟩
  | 5 => ⟨S32x4, .i32⟩
  | 6 => ⟨S32x4, .i32⟩
  | 7 => ⟨S32x4, .i32⟩
  | 8 => ⟨S8x8x3, .f32⟩
  | 9 => ⟨S8x8x11, .f32⟩
  | 10 => ⟨S1x5, .f32⟩
  | 11 => ⟨S_, .i32⟩
  | 12 => ⟨S16x64, .i32⟩
  | 13 => ⟨S16x64, .i1⟩
  | 14 => ⟨S_, .i32⟩
  | 15 => ⟨S16x64, .i32⟩
  | 16 => ⟨S16x64, .i32⟩
  | 17 => ⟨S16x64, .i32⟩
  | 18 => ⟨S16x64x1, .i32⟩
  | 19 => ⟨S16x64x4, .i32⟩
  | 20 => ⟨S_, .i32⟩
  | 21 => ⟨S16x64, .i32⟩
  | 22 => ⟨S16x64, .i1⟩
  | 23 => ⟨S_, .i32⟩
  | 24 => ⟨S16x64, .i32⟩
  | 25 => ⟨S16x64, .i32⟩
  | 26 => ⟨S16x64, .i32⟩
  | 27 => ⟨S16x64x1, .i32⟩
  | 28 => ⟨S16x64x4, .i32⟩
  | 29 => ⟨S_, .i32⟩
  | 30 => ⟨S16x64, .i32⟩
  | 31 => ⟨S16x64, .i1⟩
  | 32 => ⟨S_, .i32⟩
  | 33 => ⟨S16x64, .i32⟩
  | 34 => ⟨S16x64, .i32⟩
  | 35 => ⟨S16x64, .i32⟩
  | 36 => ⟨S16x64x1, .i32⟩
  | 37 => ⟨S16x64, .i32⟩
  | 38 => ⟨S_, .i32⟩
  | 39 => ⟨S16x64, .i32⟩
  | 40 => ⟨S16x64, .i1⟩
  | 41 => ⟨S_, .i32⟩
  | 42 => ⟨S16x64, .i32⟩
  | 43 => ⟨S16x64, .i32⟩
  | 44 => ⟨S16x64, .i32⟩
  | 45 => ⟨S16x64x1, .i32⟩
  | 46 => ⟨S16x64, .i32⟩
  | 47 => ⟨S_, .i32⟩
  | 48 => ⟨S16x64, .i32⟩
  | 49 => ⟨S16x64, .i1⟩
  | 50 => ⟨S_, .i32⟩
  | 51 => ⟨S16x64, .i32⟩
  | 52 => ⟨S16x64, .i32⟩
  | 53 => ⟨S16x64, .i32⟩
  | 54 => ⟨S16x64x1, .i32⟩
  | 55 => ⟨S16x64x4, .i32⟩
  | 56 => ⟨S16x256, .i32⟩
  | 57 => ⟨S_, .i32⟩
  | 58 => ⟨S16x64, .i32⟩
  | 59 => ⟨S16x64, .i1⟩
  | 60 => ⟨S_, .i32⟩
  | 61 => ⟨S16x64, .i32⟩
  | 62 => ⟨S16x64, .i32⟩
  | 63 => ⟨S16x64, .i32⟩
  | 64 => ⟨S16x64x1, .i32⟩
  | 65 => ⟨S16x64x4, .i32⟩
  | 66 => ⟨S16x256, .i32⟩
  | 67 => ⟨S64, .i32⟩
  | 68 => ⟨S_, .i32⟩
  | 69 => ⟨S64, .i32⟩
  | 70 => ⟨S64, .i32⟩
  | 71 => ⟨S1x64x1, .i32⟩
  | 72 => ⟨S16x64x4, .i32⟩
  | 73 => ⟨S16x64x4, .i32⟩
  | 74 => ⟨S16x256, .i32⟩
  | 75 => ⟨S16x64x4, .i32⟩
  | 76 => ⟨S16x64x4, .i32⟩
  | 77 => ⟨S16x256, .i32⟩
  | 78 => ⟨S16, .i32⟩
  | 79 => ⟨S16x1, .i32⟩
  | 80 => ⟨S_, .i32⟩
  | 81 => ⟨S16x1, .i32⟩
  | 82 => ⟨S16x1, .i1⟩
  | 83 => ⟨S_, .i32⟩
  | 84 => ⟨S16x1, .i32⟩
  | 85 => ⟨S16x1, .i32⟩
  | 86 => ⟨S16x1, .i32⟩
  | 87 => ⟨S_, .i32⟩
  | 88 => ⟨S16x256, .i32⟩
  | 89 => ⟨S16x256, .i1⟩
  | 90 => ⟨S_, .i32⟩
  | 91 => ⟨S16x256, .i32⟩
  | 92 => ⟨S16x256, .i32⟩
  | 93 => ⟨S16x256, .i32⟩
  | 94 => ⟨S16x256, .i32⟩
  | 95 => ⟨S16x256x1, .i32⟩
  | 96 => ⟨S16x256x1, .i32⟩
  | 97 => ⟨S16x256x2, .i32⟩
  | 98 => ⟨S16x256x3, .f32⟩
  | 99 => ⟨S_, .i32⟩
  | 100 => ⟨S16x1, .i32⟩
  | 101 => ⟨S16x1, .i1⟩
  | 102 => ⟨S_, .i32⟩
  | 103 => ⟨S16x1, .i32⟩
  | 104 => ⟨S16x1, .i32⟩
  | 105 => ⟨S16x1, .i32⟩
  | 106 => ⟨S_, .i32⟩
  | 107 => ⟨S16x256, .i32⟩
  | 108 => ⟨S16x256, .i1⟩
  | 109 => ⟨S_, .i32⟩
  | 110 => ⟨S16x256, .i32⟩
  | 111 => ⟨S16x256, .i32⟩
  | 112 => ⟨S16x256, .i32⟩
  | 113 => ⟨S16x256, .i32⟩
  | 114 => ⟨S16x256x1, .i32⟩
  | 115 => ⟨S16x256x1, .i32⟩
  | 116 => ⟨S16x256x2, .i32⟩
  | 117 => ⟨S16x256x3, .f32⟩
  | 118 => ⟨S4, .i32⟩
  | 119 => ⟨S1x1x4, .i32⟩
  | 120 => ⟨S16x64x1, .i32⟩
  | 121 => ⟨S16x64x4, .i32⟩
  | 122 => ⟨S16x64x4, .i32⟩
  | 123 => ⟨S16x64x4, .i1⟩
  | 124 => ⟨S16x256, .i1⟩
  | 125 => ⟨S16x64x1, .i32⟩
  | 126 => ⟨S16x64x4, .i32⟩
  | 127 => ⟨S16x64x4, .i32⟩
  | _ => ⟨S16x2048x3, .f32⟩

abbrev hbmTy0_1 (i : Nat) : BufTy := match i % 128 with
  | 0 => ⟨S16x64x4, .i1⟩
  | 1 => ⟨S16x256, .i1⟩
  | 2 => ⟨S16x256x1x3, .f32⟩
  | 3 => ⟨S16x1x256x3, .f32⟩
  | 4 => ⟨S16x256x256x3, .f32⟩
  | 5 => ⟨S16x256x256x3, .f32⟩
  | 6 => ⟨S16x256x256x3, .f32⟩
  | 7 => ⟨S16x256x256x3, .f32⟩
  | 8 => ⟨S_, .f32⟩
  | 9 => ⟨S16x256x256, .f32⟩
  | 10 => ⟨S_, .f32⟩
  | 11 => ⟨S16x256x256, .f32⟩
  | 12 => ⟨S16x256x256, .f32⟩
  | 13 => ⟨S16x256x256, .f32⟩
  | 14 => ⟨S16x256x1, .i32⟩
  | 15 => ⟨S16x1x256, .i32⟩
  | 16 => ⟨S_, .i32⟩
  | 17 => ⟨S16x256x1, .i32⟩
  | 18 => ⟨S16x256x1, .i1⟩
  | 19 => ⟨S_, .i32⟩
  | 20 => ⟨S16x256x1, .i32⟩
  | 21 => ⟨S16x256x1, .i32⟩
  | 22 => ⟨S16x256x1, .i32⟩
  | 23 => ⟨S_, .i32⟩
  | 24 => ⟨S16x1x256, .i32⟩
  | 25 => ⟨S16x1x256, .i1⟩
  | 26 => ⟨S_, .i32⟩
  | 27 => ⟨S16x1x256, .i32⟩
  | 28 => ⟨S16x1x256, .i32⟩
  | 29 => ⟨S16x1x256, .i32⟩
  | 30 => ⟨S16x256x256, .i32⟩
  | 31 => ⟨S16x256x256, .i32⟩
  | 32 => ⟨S16x256x256x1, .i32⟩
  | 33 => ⟨S16x256x256x1, .i32⟩
  | 34 => ⟨S16x256x256x2, .i32⟩
  | 35 => ⟨S16x256x256x11, .f32⟩
  | 36 => ⟨S16x256x256x1, .f32⟩
  | 37 => ⟨S16x256x256, .f32⟩
  | 38 => ⟨S16x256x256, .f32⟩
  | 39 => ⟨S16x256x256x1, .f32⟩
  | 40 => ⟨S16x256x256, .f32⟩
  | 41 => ⟨S16x256x256, .f32⟩
  | 42 => ⟨S16x256x256, .f32⟩
  | 43 => ⟨S16x256x256x1, .f32⟩
  | 44 => ⟨S16x256x256, .f32⟩
  | 45 => ⟨S16x256x256, .f32⟩
  | 46 => ⟨S16x256x256, .f32⟩
  | 47 => ⟨S16x256x256x1, .f32⟩
  | 48 => ⟨S16x256x256, .f32⟩
  | 49 => ⟨S16x256x256, .f32⟩
  | 50 => ⟨S16x256x256, .f32⟩
  | 51 => ⟨S16x256x256x1, .f32⟩
  | 52 => ⟨S16x256x256, .f32⟩
  | 53 => ⟨S16x256x256, .f32⟩
  | 54 => ⟨S16x256x256, .f32⟩
  | 55 => ⟨S16x256x256x1, .f32⟩
  | 56 => ⟨S16x256x256, .f32⟩
  | 57 => ⟨S16x256x256, .f32⟩
  | 58 => ⟨S16x256x256, .f32⟩
  | 59 => ⟨S16x256x256x1, .f32⟩
  | 60 => ⟨S16x256x256, .f32⟩
  | 61 => ⟨S16x256x256, .f32⟩
  | 62 => ⟨S16x256x256, .f32⟩
  | 63 => ⟨S16x256x256x1, .f32⟩
  | 64 => ⟨S16x256x256, .f32⟩
  | 65 => ⟨S16x256x256, .f32⟩
  | 66 => ⟨S16x256x256, .f32⟩
  | 67 => ⟨S16x256x256x1, .f32⟩
  | 68 => ⟨S16x256x256, .f32⟩
  | 69 => ⟨S16x256x256, .f32⟩
  | 70 => ⟨S16x256x256, .f32⟩
  | 71 => ⟨S16x256x256x1, .f32⟩
  | 72 => ⟨S16x256x256, .f32⟩
  | 73 => ⟨S16x256x256, .f32⟩
  | 74 => ⟨S16x256x256, .f32⟩
  | 75 => ⟨S16x256x256x1, .f32⟩
  | 76 => ⟨S16x256x256, .f32⟩
  | 77 => ⟨S16x256x256, .f32⟩
  | 78 => ⟨S_, .i32⟩
  | 79 => ⟨S16x256x1, .i32⟩
  | 80 => ⟨S16x256x1, .i1⟩
  | 81 => ⟨S_, .i32⟩
  | 82 => ⟨S16x256x1, .i32⟩
  | 83 => ⟨S16x256x1, .i32⟩
  | 84 => ⟨S16x256x1, .i32⟩
  | 85 => ⟨S_, .i32⟩
  | 86 => ⟨S16x1x256, .i32⟩
  | 87 => ⟨S16x1x256, .i1⟩
  | 88 => ⟨S_, .i32⟩
  | 89 => ⟨S16x1x256, .i32⟩
  | 90 => ⟨S16x1x256, .i32⟩
  | 91 => ⟨S16x1x256, .i32⟩
  | 92 => ⟨S16x256x256, .i32⟩
  | 93 => ⟨S16x256x256, .i32⟩
  | 94 => ⟨S16x256x256x1, .i32⟩
  | 95 => ⟨S16x256x256x1, .i32⟩
  | 96 => ⟨S16x256x256x2, .i32⟩
  | 97 => ⟨S16x256x256x3, .f32⟩
  | 98 => ⟨S16x256x256x1, .f32⟩
  | 99 => ⟨S16x256x256, .f32⟩
  | 100 => ⟨S_, .f32⟩
  | 101 => ⟨S16x256x256, .f32⟩
  | 102 => ⟨S16x256x256, .f32⟩
  | 103 => ⟨S_, .f32⟩
  | 104 => ⟨S16x256x256, .f32⟩
  | 105 => ⟨S16x256x256, .f32⟩
  | 106 => ⟨S16x256x256x1, .f32⟩
  | 107 => ⟨S16x256x256, .f32⟩
  | 108 => ⟨S16x256x256, .f32⟩
  | 109 => ⟨S16x256x1, .i1⟩
  | 110 => ⟨S16x1x256, .i1⟩
  | 111 => ⟨S16x256x256, .i1⟩
  | 112 => ⟨S16x256x256, .i1⟩
  | 113 => ⟨S16x256x256, .i1⟩
  | 114 => ⟨S16x256x256, .i1⟩
  | 115 => ⟨S16x256x256, .i1⟩
  | 116 => ⟨S16x256x256, .i1⟩
  | 117 => ⟨S16x256x256, .i1⟩
  | 118 => ⟨S1x1, .f32⟩
  | 119 => ⟨S_, .f32⟩
  | 120 => ⟨S16x256x256, .f32⟩
  | 121 => ⟨S16x256x256, .f32⟩
  | 122 => ⟨S_, .f32⟩
  | 123 => ⟨S_, .f32⟩
  | 124 => ⟨S16x256x256, .f32⟩
  | 125 => ⟨S16x256x256, .f32⟩
  | 126 => ⟨S_, .f32⟩
  | 127 => ⟨S16, .f32⟩
  | _ => ⟨S16x2048x3, .f32⟩

abbrev hbmTy0_2 (i : Nat) : BufTy := match i % 128 with
  | 0 => ⟨S16x65536, .f32⟩
  | 1 => ⟨S16x65536, .i32⟩
  | 2 => ⟨S_, .f32⟩
  | 3 => ⟨S_, .i32⟩
  | 4 => ⟨S16, .f32⟩
  | 5 => ⟨S16, .i32⟩
  | _ => ⟨S16x2048x3, .f32⟩

abbrev hbmTy (i : Nat) : BufTy := match i / 128 with
  | 0 => hbmTy0_0 i
  | 1 => hbmTy0_1 i
  | 2 => hbmTy0_2 i
  | _ => ⟨S16x2048x3, .f32⟩

abbrev bufTy : (tb : Table) → Fin (tcTables nBuf tb) → BufTy
  | .hbm, ⟨i, _⟩ => hbmTy i
  | _, _ => ⟨S16x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_c_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_c_10 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_c_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_c_15 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_16 : Ref sig .tc := ⟨.hbm, 99, rfl⟩
abbrev main_v71 : Ref sig .tc := ⟨.hbm, 100, rfl⟩
abbrev main_v72 : Ref sig .tc := ⟨.hbm, 101, rfl⟩
abbrev main_c_17 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c_18 : Ref sig .tc := ⟨.hbm, 106, rfl⟩
abbrev main_v76 : Ref sig .tc := ⟨.hbm, 107, rfl⟩
abbrev main_v77 : Ref sig .tc := ⟨.hbm, 108, rfl⟩
abbrev main_c_19 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst : Ref sig .tc := ⟨.hbm, 136, rfl⟩
abbrev main_v104 : Ref sig .tc := ⟨.hbm, 137, rfl⟩
abbrev main_cst_20 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_c_21 : Ref sig .tc := ⟨.hbm, 144, rfl⟩
abbrev main_v110 : Ref sig .tc := ⟨.hbm, 145, rfl⟩
abbrev main_v111 : Ref sig .tc := ⟨.hbm, 146, rfl⟩
abbrev main_c_22 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_c_23 : Ref sig .tc := ⟨.hbm, 151, rfl⟩
abbrev main_v115 : Ref sig .tc := ⟨.hbm, 152, rfl⟩
abbrev main_v116 : Ref sig .tc := ⟨.hbm, 153, rfl⟩
abbrev main_c_24 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_c_25 : Ref sig .tc := ⟨.hbm, 206, rfl⟩
abbrev main_v168 : Ref sig .tc := ⟨.hbm, 207, rfl⟩
abbrev main_v169 : Ref sig .tc := ⟨.hbm, 208, rfl⟩
abbrev main_c_26 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_c_27 : Ref sig .tc := ⟨.hbm, 213, rfl⟩
abbrev main_v173 : Ref sig .tc := ⟨.hbm, 214, rfl⟩
abbrev main_v174 : Ref sig .tc := ⟨.hbm, 215, rfl⟩
abbrev main_c_28 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_cst_29 : Ref sig .tc := ⟨.hbm, 228, rfl⟩
abbrev main_v186 : Ref sig .tc := ⟨.hbm, 229, rfl⟩
abbrev main_v187 : Ref sig .tc := ⟨.hbm, 230, rfl⟩
abbrev main_cst_30 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_cst_31 : Ref sig .tc := ⟨.hbm, 250, rfl⟩
abbrev main_call0_v0 : Ref sig .tc := ⟨.hbm, 251, rfl⟩
abbrev main_call0_v1 : Ref sig .tc := ⟨.hbm, 252, rfl⟩
abbrev main_v206 : Ref sig .tc := ⟨.hbm, 253, rfl⟩
abbrev main_cst_32 : Ref sig .tc := ⟨.hbm, 254, rfl⟩
abbrev main_v207 : Ref sig .tc := ⟨.hbm, 255, rfl⟩
abbrev main_v208 : Ref sig .tc := ⟨.hbm, 256, rfl⟩
abbrev main_call1_v0 : Ref sig .tc := ⟨.hbm, 257, rfl⟩
abbrev main_call1_cst : Ref sig .tc := ⟨.hbm, 258, rfl⟩
abbrev main_call1_c : Ref sig .tc := ⟨.hbm, 259, rfl⟩
abbrev main_call1_v1_0 : Ref sig .tc := ⟨.hbm, 260, rfl⟩
abbrev main_v209 : Ref sig .tc := ⟨.hbm, 261, rfl⟩

abbrev nD : Nat := 1
abbrev τ : Topo := Topo.v7x

variable {F : FTy → Type} [FloatOps F]
-- ==== Proof.Frames.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_well_formed
public import Idealize.ShloMosaic.Lib.Claim

@[expose] public section

noncomputable section

namespace Cert.Proof

open Idealize.ShloMosaic Idealize.SL.Sem

/-- The kernel runs and leaves its arguments as they were. -/
theorem frame_kernel : Cert.quiescent_Kernel (hKernel := Cert.Kernel.Gen.facts) :=
  fun m ρ _ => Cert.Kernel.Gen.frame m ρ

/-- The kernel at the extended reals runs and leaves its arguments as they were. -/
theorem frame_kernelIdeal : Cert.quiescent_KernelIdeal (hKernelIdeal := Cert.KernelIdeal.Gen.facts) :=
  fun m ρ _ => Cert.KernelIdeal.Gen.frame m ρ

set_option maxHeartbeats 4000000 in
/-- The reference at the extended reals runs and leaves its arguments as they were. -/
theorem frame_reference : Cert.quiescent_ReferenceIdeal (hReferenceIdeal := Cert.ReferenceIdeal.Gen.facts) := by
  intro m g _
  hlo_run
  · exact fun _ => ⟨trivial, trivial, trivial, trivial, trivial, trivial, trivial, trivial, trivial, trivial, trivial⟩
  · exact sem_eq_zero_of_no_sems (sig := Cert.ReferenceIdeal.sig) (τ := Cert.ReferenceIdeal.τ) (nD := Cert.ReferenceIdeal.nD) (Val := Elt Ideal) (by decide) _

/-- The same under the precondition. -/
theorem frame_kernelIdeal_pre : Cert.quiescent_KernelIdeal_pre_well_formed
    (hKernelIdeal := Cert.KernelIdeal.Gen.facts) (hPre_well_formed := Cert.Pre_well_formed.Gen.facts) :=
  fun m ρ _ => Cert.KernelIdeal.Gen.frame m ρ

/-- The same under the precondition. -/
theorem frame_reference_pre : Cert.quiescent_ReferenceIdeal_pre_well_formed
    (hReferenceIdeal := Cert.ReferenceIdeal.Gen.facts) (hPre_well_formed := Cert.Pre_well_formed.Gen.facts) :=
  fun m g _ => frame_reference m g trivial

end Cert.Proof

end
-- ==== Proof.Spec.lean ====
/- One pose of the problem, over the extended reals: what its data are and what its energies, its score and the place
   of its least energy are. Both programs are shown to compute these. -/
module

public import Idealize.ShloMosaic.Lib.Claim
public import Idealize.ShloMosaic.Lib.Pointwise

@[expose] public section

noncomputable section

namespace Cert.Spec

open Idealize.ShloMosaic

/-- The data of one pose: its blocks' types, the slot tables of every block type, the coordinates of every atom of
    every block, the coefficients of every pair of types (the eleven of the polynomial, then the two of the distance
    bounds) and the weight. -/
structure Pose where
  ty : Fin 64 → Fin 32
  dl : Fin 32 → Fin 4 → Fin 32
  al : Fin 32 → Fin 4 → Fin 32
  nd : Fin 32 → BitVec 32
  na : Fin 32 → BitVec 32
  dty : Fin 32 → Fin 4 → Fin 8
  aty : Fin 32 → Fin 4 → Fin 8
  xyz : Fin 64 → Fin 32 → Fin 3 → EReal
  tab : Fin 13 → Fin 8 → Fin 8 → EReal
  gp : EReal

/-- The block of a slot of the pose. -/
def blk (i : Fin 256) : Fin 64 := ⟨i / 4, by omega⟩

/-- The slot's number within its block. -/
def slot (i : Fin 256) : Fin 4 := ⟨i % 4, by omega⟩

namespace Pose
variable (P : Pose)

/-- The block type of a slot. -/
def tyOf (i : Fin 256) : Fin 32 := P.ty (blk i)

/-- A donor slot's coordinate along an axis. -/
def don (i : Fin 256) (c : Fin 3) : EReal := P.xyz (blk i) (P.dl (P.tyOf i) (slot i)) c

/-- An acceptor slot's coordinate along an axis. -/
def acc (j : Fin 256) (c : Fin 3) : EReal := P.xyz (blk j) (P.al (P.tyOf j) (slot j)) c

/-- The squared difference along an axis. -/
def sqd (i j : Fin 256) (c : Fin 3) : EReal := (P.don i c - P.acc j c) * (P.don i c - P.acc j c)

/-- The distance of a donor slot and an acceptor slot. -/
def dist (i j : Fin 256) : EReal :=
  Ideal.sqrt (((P.sqd i j 0 + P.sqd i j 1) + P.sqd i j 2) + Ideal.ofBits .f32 0x322BCC77#32)

/-- A coefficient of a donor slot and an acceptor slot. -/
def coef (k : Fin 13) (i j : Fin 256) : EReal :=
  P.tab k (P.dty (P.tyOf i) (slot i)) (P.aty (P.tyOf j) (slot j))

/-- The polynomial of a pair at its distance. -/
def poly (i j : Fin 256) : EReal :=
  (((((((((P.coef 0 i j * P.dist i j + P.coef 1 i j) * P.dist i j + P.coef 2 i j) * P.dist i j + P.coef 3 i j) * P.dist i j
    + P.coef 4 i j) * P.dist i j + P.coef 5 i j) * P.dist i j + P.coef 6 i j) * P.dist i j + P.coef 7 i j) * P.dist i j
    + P.coef 8 i j) * P.dist i j + P.coef 9 i j) * P.dist i j + P.coef 10 i j

/-- The least distance at which the pair counts. -/
def dmin (i j : Fin 256) : EReal := Ideal.ofBits .f32 0x3F000000#32 + P.coef 11 i j

/-- The greatest distance at which the pair counts. -/
def dmax (i j : Fin 256) : EReal := (P.dmin i j + Ideal.ofBits .f32 0x40000000#32) + P.coef 12 i j

/-- Whether the pair counts. -/
def counts (i j : Fin 256) : Prop :=
  ((((BitVec.ofNat 32 (slot i : ℕ)).slt (P.nd (P.tyOf i)) = true
    ∧ (BitVec.ofNat 32 (slot j : ℕ)).slt (P.na (P.tyOf j)) = true) ∧ P.dmin i j < P.dist i j) ∧ P.dist i j < P.dmax i j)

open Classical in
/-- The energy of a pair. -/
def energy (i j : Fin 256) : EReal := if P.counts i j then P.poly i j * P.gp else 0

/-- The pose's score. -/
def score : EReal := ∑ i : Fin 256, ∑ j : Fin 256, P.energy i j

/-- The energies in row order. -/
def flat (n : Fin 65536) : EReal := P.energy ⟨n / 256, by omega⟩ ⟨n % 256, by omega⟩

end Pose

/-- The energies of a pose in one row, where two slots meet. -/
theorem Pose.flat_at (P : Pose) (i j : Fin 256) : P.flat ⟨i * 256 + j, by omega⟩ = P.energy i j :=
  congrArg₂ P.energy (Fin.ext (show ((i : ℕ) * 256 + j) / 256 = i by omega))
    (Fin.ext (show ((i : ℕ) * 256 + j) % 256 = j by omega))

/-- `n` is the first place at which `f` is least. -/
def FirstMin {N : ℕ} (f : Fin N → EReal) (n : Fin N) : Prop := (∀ m, f n ≤ f m) ∧ ∀ m, m < n → f n < f m

/-- A nonempty list of values has a first least place. -/
theorem exists_firstMin {N : ℕ} [NeZero N] (f : Fin N → EReal) : ∃ n, FirstMin f n := by
  classical
  obtain ⟨n0, -, h0⟩ := Finset.exists_min_image (Finset.univ : Finset (Fin N)) f ⟨0, Finset.mem_univ _⟩
  have hne : (Finset.univ.filter fun n => f n = f n0).Nonempty := ⟨n0, by simp⟩
  have h1 := Finset.min'_mem _ hne
  rw [Finset.mem_filter] at h1
  refine ⟨(Finset.univ.filter fun n => f n = f n0).min' hne, fun m => ?_, fun m hm => ?_⟩
  · rw [h1.2]; exact h0 m (Finset.mem_univ _)
  · rw [h1.2]
    refine lt_of_le_of_ne (h0 m (Finset.mem_univ _)) fun e => ?_
    exact absurd (Finset.min'_le _ m (by simp [e])) (not_le.2 hm)

/-- The place of the least energy. -/
def Pose.place (P : Pose) : BitVec 32 := BitVec.ofNat 32 (exists_firstMin P.flat).choose

/-- A fold of minima from the top is the infimum: at least `a` exactly when every value is. -/
theorem le_fold_min {ι : Type*} (s : Finset ι) (f : ι → EReal) (a : EReal) :
    a ≤ s.fold min ⊤ f ↔ ∀ i ∈ s, a ≤ f i := by
  rw [Finset.le_fold_min]; simp

/-- A fold of minima that some place attains. -/
theorem fold_min_eq {ι : Type*} (s : Finset ι) (f : ι → EReal) (i : ι) (hi : i ∈ s) (h : ∀ k ∈ s, f i ≤ f k) :
    s.fold min ⊤ f = f i :=
  le_antisymm ((le_fold_min s f _).1 le_rfl i hi) ((le_fold_min s f _).2 h)

section
variable (X : FVec Ideal ⟨3, ![16, 2048, 3]⟩ .f32) (B : IVec ⟨2, ![16, 64]⟩ 32) (ND NA : IVec ⟨1, ![32]⟩ 32)
  (DL AL DT AT : IVec ⟨2, ![32, 4]⟩ 32) (PP : FVec Ideal ⟨3, ![8, 8, 3]⟩ .f32) (PL : FVec Ideal ⟨3, ![8, 8, 11]⟩ .f32)
  (GP : FVec Ideal ⟨2, ![1, 5]⟩ .f32)

/-- The data of a pose, out of the argument arrays. -/
def poseOf (p : Fin 16) : Pose where
  ty b := Fin.ofNat 32 (B (ix2 p b)).toNat
  dl t s := Fin.ofNat 32 (DL (ix2 t s)).toNat
  al t s := Fin.ofNat 32 (AL (ix2 t s)).toNat
  nd t := ND (ix1 t)
  na t := NA (ix1 t)
  dty t s := Fin.ofNat 8 (DT (ix2 t s)).toNat
  aty t s := Fin.ofNat 8 (AT (ix2 t s)).toNat
  xyz b l c := X (ix3 p ⟨b * 32 + l, by omega⟩ c)
  tab k a q := if h : (k : ℕ) < 11 then PL (ix3 a q ⟨k, h⟩) else PP (ix3 a q ⟨k - 11, by omega⟩)
  gp := GP (ix2 0 0)

theorem tab_hi (p : Fin 16) (a q : Fin 8) (k : Fin 13) (h : (k : ℕ) < 11) :
    (poseOf X B ND NA DL AL DT AT PP PL GP p).tab k a q = PL (ix3 a q ⟨k, h⟩) := dif_pos h

theorem tab_lo (p : Fin 16) (a q : Fin 8) (k : Fin 13) (h : ¬ (k : ℕ) < 11) :
    (poseOf X B ND NA DL AL DT AT PP PL GP p).tab k a q = PP (ix3 a q ⟨k - 11, by omega⟩) := dif_neg h

/-- The argument arrays are well formed: the polynomials' coefficients and the widths of the distance bounds are finite (so
    that each less itself is nothing), and the words are in range. -/
structure Good : Prop where
  PP : ∀ a q, PP (ix3 a q 1) - PP (ix3 a q 1) = 0
  PL : ∀ i j k, PL (ix3 i j k) - PL (ix3 i j k) = 0
  B : ∀ i j, (B (ix2 i j)).toNat < 32
  DL : ∀ i j, (DL (ix2 i j)).toNat < 32
  AL : ∀ i j, (AL (ix2 i j)).toNat < 32
  DT : ∀ i j, (DT (ix2 i j)).toNat < 8
  AT : ∀ i j, (AT (ix2 i j)).toNat < 8

end

/-- A value with its two remainders added: itself where it is finite, else the bottom. -/
def whole (x : EReal) : EReal := (x + (x - x)) + ((x - x) - (x - x))

theorem whole_coe (r : ℝ) : whole r = r := by
  rw [whole, EReal.sub_self (EReal.coe_ne_top r) (EReal.coe_ne_bot r), sub_zero, add_zero, add_zero]

theorem whole_top : whole ⊤ = ⊥ := by simp [whole]

theorem whole_bot : whole ⊥ = ⊥ := by simp [whole]

/-- The square of a difference does not tell a value from its parts added up: where either value is infinite, both
    squares are the top. -/
theorem whole_sq (x y : EReal) : (whole x - whole y) * (whole x - whole y) = (x - y) * (x - y) := by
  induction x using EReal.rec <;> induction y using EReal.rec <;> simp [whole_coe, whole_top, whole_bot]

/-- A value that less itself is nothing is the sum of its parts. -/
theorem whole_of_sub {x : EReal} (h : x - x = 0) : whole x = x := by
  rw [whole, h, sub_zero, add_zero, add_zero]

/-- Nor do the bounds of a distance: where the lower one is infinite, no distance is between them. -/
theorem whole_between (a b x y d : EReal) (ha : a ≠ ⊥ ∧ a ≠ ⊤) :
    (a + whole x < d ∧ d < ((a + whole x) + b) + y) ↔ (a + x < d ∧ d < ((a + x) + b) + y) := by
  induction x using EReal.rec with
  | bot => rw [whole_bot]
  | coe r => rw [whole_coe]
  | top => simp [whole_top, EReal.add_top_of_ne_bot ha.1]

/-- A word in range is the word of its value. -/
theorem word_ofNat {n : ℕ} [NeZero n] (w : BitVec 32) (h : w.toNat < n) :
    BitVec.ofNat 32 ((Fin.ofNat n w.toNat : Fin n) : ℕ) = w := by
  rw [Fin.val_ofNat, Nat.mod_eq_of_lt h]; simp

end Cert.Spec

end
-- ==== Proof.Decode.lean ====
/- What the precondition says of the arguments: finite coefficients, and words in range. -/
module

public import proofs.«01_k».proof.Defs
public import proofs.«01_k».proof.Proof.Gen.Pre_well_formed
public import proofs.«01_k».proof.Proof.Spec
public import Idealize.ShloMosaic.Lib.ReduceAll
public import Idealize.ShloMosaic.Lib.Claim

@[expose] public section

set_option maxRecDepth 16384

noncomputable section

namespace Cert.Pre_well_formed

open Idealize.ShloMosaic Cert.Spec

/-- A conjunction of two bits, at an index. -/
theorem both {s : Shape} (a b : IVec s 1) (i : s.Idx) : andi a b i = 1#1 ↔ a i = 1#1 ∧ b i = 1#1 := IntOp.andi_eq_one

/-- A word at least nothing and less than a small bound is below it. -/
theorem word_range (w : BitVec 32) (n : ℕ) (hn : n < 2 ^ 31) (h0 : IntOp.cmpi .sge w 0#32 = 1#1)
    (h1 : IntOp.cmpi .slt w (BitVec.ofNat 32 n) = 1#1) : w.toNat < n := by
  have a := IntOp.cmpi_sge.1 h0
  have b := IntOp.cmpi_slt.1 h1
  have z : (0#32 : BitVec 32).toInt = 0 := by decide
  rw [z, BitVec.toInt_eq_toNat_cond] at a
  rw [BitVec.toInt_eq_toNat_cond] at b
  have e : (BitVec.ofNat 32 n).toInt = n := by
    rw [BitVec.toInt_eq_toNat_cond, BitVec.toNat_ofNat]
    split <;> omega
  rw [e] at b
  have := w.isLt
  split at a <;> split at b <;> omega

/-- A value whose size is below the top is finite: less itself it is nothing. -/
theorem finite_sub (x : EReal) (h : Ideal.cmp .olt (max x (-x)) (Ideal.ofBits .f32 0x7F800000#32) = 1#1) : x - x = 0 := by
  have htop : Ideal.ofBits .f32 0x7F800000#32 = ⊤ := by simp [Ideal.ofBits, Ideal.ieee]
  rw [htop] at h
  have h' : max x (-x) < ⊤ := by
    by_contra k
    simp [Ideal.cmp, k] at h
  refine EReal.sub_self (fun e => ?_) (fun e => ?_) <;> subst e <;> simp at h'

open Facts in
/-- The precondition's function is true of well-formed arguments only. -/
theorem good_of_fn [Facts] (X : FVec Ideal S16x2048x3 .f32) (B : IVec S16x64 32) (ND NA : IVec S32 32)
    (DL AL DT AT : IVec S32x4 32) (PP : FVec Ideal S8x8x3 .f32) (PL : FVec Ideal S8x8x11 .f32) (GP : FVec Ideal S1x5 .f32)
    (h : fn X B ND NA DL AL DT AT PP PL GP = fun _ => 1#1) : Good B DL AL DT AT PP PL := by
  have h0 := congrFun h (Shape.Idx.first h_S_)
  simp only [fn, fn_part1, fn_part2, both] at h0
  obtain ⟨⟨⟨⟨⟨⟨aPP, aPL⟩, aB⟩, aDL⟩, aAL⟩, aDT⟩, aAT⟩ := h0
  haveI : Subsingleton S_.Idx := ⟨fun a b => funext fun i => i.elim0⟩
  have rB (i) := Host.reduce_andi_all _ _ _ _ _ aB i
  have rDL (i) := Host.reduce_andi_all _ _ _ _ _ aDL i
  have rAL (i) := Host.reduce_andi_all _ _ _ _ _ aAL i
  have rDT (i) := Host.reduce_andi_all _ _ _ _ _ aDT i
  have rAT (i) := Host.reduce_andi_all _ _ _ _ _ aAT i
  simp only [both] at rB rDL rAL rDT rAT
  exact {
    PP := fun i j => by
      have e := Host.reduce_andi_all _ _ _ _ _ aPP (ix2 i j)
      have r : shapeCast S8x8 ((extractStridedSlice S8x8x1 ![0, 0, 1] · slices_S8x8x3_S8x8x1_0_0_1) PP)
          shapeCasts_S8x8x1_S8x8 (ix2 i j) = PP (ix3 i j 1) := by
        pointwise
      rw [← r]
      exact finite_sub _ e
    PL := fun i j k => finite_sub _ (Host.reduce_andi_all _ _ _ _ _ aPL (ix3 i j k))
    B := fun i j => word_range _ 32 (by omega) (rB (ix2 i j)).1 (rB (ix2 i j)).2
    DL := fun i j => word_range _ 32 (by omega) (rDL (ix2 i j)).1 (rDL (ix2 i j)).2
    AL := fun i j => word_range _ 32 (by omega) (rAL (ix2 i j)).1 (rAL (ix2 i j)).2
    DT := fun i j => word_range _ 8 (by omega) (rDT (ix2 i j)).1 (rDT (ix2 i j)).2
    AT := fun i j => word_range _ 8 (by omega) (rAT (ix2 i j)).1 (rAT (ix2 i j)).2 }

end Cert.Pre_well_formed

end
-- ==== Proof.Gathers.lean ====
/- The reference's table reads: each gather of the program, read at an index. -/
module

public import proofs.«01_k».proof.Proof.Spec
public import proofs.«01_k».proof.Proof.Gen.ReferenceIdeal
public import Idealize.ShloMosaic.Lib.Claim
public import Idealize.ShloMosaic.Lib.Pipeline.ValueKit

@[expose] public section

set_option maxRecDepth 16384

noncomputable section

namespace Cert.ReferenceIdeal.Ref

open Idealize.ShloMosaic Idealize.SL.Sem Idealize.ShloMosaic.TcCoe
open Cert.ReferenceIdeal Cert.ReferenceIdeal.Gen

variable {α : Type}

/-- A gather without batching axes reads the operand where start and offset add up to. -/
theorem gather_eq {s si t : Shape} {w : ℕ} (d : GatherDims s si t) (T : s.Idx → α) (I : IVec si w) (j : t.Idx) (x : s.Idx)
    (hob : d.operandBatchingDims = []) (h : ∀ a, d.start j I a + d.offCoord j a = (x a : ℕ)) : Host.gather d T I j = T x := by
  unfold Host.gather
  refine congrArg T (funext fun a => Fin.ext ?_)
  show d.start j I a + d.batchCoord j a + d.offCoord j a = _
  rw [d.batchCoord_eq_zero j a (by rw [hob]; exact List.not_mem_nil), Nat.add_zero]
  exact h a

/-- Rows of four, one per block. -/
theorem gather4 (T : S32x4.Idx → α) (I : IVec S16x64x1 32) (p : Fin 16) (b : Fin 64) (s : Fin 4) :
    Host.gather gather_S32x4_S16x64x1_S16x64x4_2_0_n_n_0_2_14 T I (ix3 p b s)
      = T (ix2 ⟨min (I (ix3 p b 0)).toInt.toNat 31, by omega⟩ s) := by
  refine gather_eq _ T I _ _ rfl ?_
  let d := gather_S32x4_S16x64x1_S16x64x4_2_0_n_n_0_2_14
  have hs : d.siIdx (ix3 p b s) ⟨0, by decide⟩ = ix3 p b 0 := funext fun k => by fin_cases k <;> rfl
  rintro ⟨a, ha⟩
  match a with
  | 0 => exact congrArg (fun k => min (I k).toInt.toNat 31) hs
  | 1 => exact Nat.zero_add (s : ℕ)

/-- One entry per block. -/
theorem gather1 (T : S32.Idx → α) (I : IVec S16x64x1 32) (p : Fin 16) (b : Fin 64) :
    Host.gather gather_S32_S16x64x1_S16x64_n_0_n_n_0_2_1 T I (ix2 p b)
      = T (ix1 ⟨min (I (ix3 p b 0)).toInt.toNat 31, by omega⟩) := by
  refine gather_eq _ T I _ _ rfl ?_
  let d := gather_S32_S16x64x1_S16x64_n_0_n_n_0_2_1
  have hs : d.siIdx (ix2 p b) ⟨0, by decide⟩ = ix3 p b 0 := funext fun k => by fin_cases k <;> rfl
  rintro ⟨a, ha⟩
  match a with
  | 0 => exact congrArg (fun k => min (I k).toInt.toNat 31) hs

/-- The coordinates of a pose's atom, one per slot. -/
theorem gatherX (T : S16x2048x3.Idx → α) (I : IVec S16x256x2 32) (p : Fin 16) (i : Fin 256) (c : Fin 3) :
    Host.gather gather_S16x2048x3_S16x256x2_S16x256x3_2_01_n_n_01_2_113 T I (ix3 p i c)
      = T (ix3 ⟨min (I (ix3 p i 0)).toInt.toNat 15, by omega⟩ ⟨min (I (ix3 p i 1)).toInt.toNat 2047, by omega⟩ c) := by
  refine gather_eq _ T I _ _ rfl ?_
  let d := gather_S16x2048x3_S16x256x2_S16x256x3_2_01_n_n_01_2_113
  have h0 : d.siIdx (ix3 p i c) ⟨0, by decide⟩ = ix3 p i 0 := funext fun k => by fin_cases k <;> rfl
  have h1 : d.siIdx (ix3 p i c) ⟨1, by decide⟩ = ix3 p i 1 := funext fun k => by fin_cases k <;> rfl
  rintro ⟨a, ha⟩
  match a with
  | 0 => exact congrArg (fun k => min (I k).toInt.toNat 15) h0
  | 1 => exact congrArg (fun k => min (I k).toInt.toNat 2047) h1
  | 2 => exact Nat.zero_add (c : ℕ)

/-- The polynomial of a pair of types, one per pair of slots. -/
theorem gatherPL (T : S8x8x11.Idx → α) (I : IVec S16x256x256x2 32) (p : Fin 16) (i j : Fin 256) (k : Fin 11) :
    Host.gather gather_S8x8x11_S16x256x256x2_S16x256x256x11_3_01_n_n_01_3_1111 T I (ix4 p i j k)
      = T (ix3 ⟨min (I (ix4 p i j 0)).toInt.toNat 7, by omega⟩ ⟨min (I (ix4 p i j 1)).toInt.toNat 7, by omega⟩ k) := by
  refine gather_eq _ T I _ _ rfl ?_
  let d := gather_S8x8x11_S16x256x256x2_S16x256x256x11_3_01_n_n_01_3_1111
  have h0 : d.siIdx (ix4 p i j k) ⟨0, by decide⟩ = ix4 p i j 0 := funext fun k => by fin_cases k <;> rfl
  have h1 : d.siIdx (ix4 p i j k) ⟨1, by decide⟩ = ix4 p i j 1 := funext fun k => by fin_cases k <;> rfl
  rintro ⟨a, ha⟩
  match a with
  | 0 => exact congrArg (fun k => min (I k).toInt.toNat 7) h0
  | 1 => exact congrArg (fun k => min (I k).toInt.toNat 7) h1
  | 2 => exact Nat.zero_add (k : ℕ)

/-- The parameters of a pair of types, one per pair of slots. -/
theorem gatherPP (T : S8x8x3.Idx → α) (I : IVec S16x256x256x2 32) (p : Fin 16) (i j : Fin 256) (k : Fin 3) :
    Host.gather gather_S8x8x3_S16x256x256x2_S16x256x256x3_3_01_n_n_01_3_113 T I (ix4 p i j k)
      = T (ix3 ⟨min (I (ix4 p i j 0)).toInt.toNat 7, by omega⟩ ⟨min (I (ix4 p i j 1)).toInt.toNat 7, by omega⟩ k) := by
  refine gather_eq _ T I _ _ rfl ?_
  let d := gather_S8x8x3_S16x256x256x2_S16x256x256x3_3_01_n_n_01_3_113
  have h0 : d.siIdx (ix4 p i j k) ⟨0, by decide⟩ = ix4 p i j 0 := funext fun k => by fin_cases k <;> rfl
  have h1 : d.siIdx (ix4 p i j k) ⟨1, by decide⟩ = ix4 p i j 1 := funext fun k => by fin_cases k <;> rfl
  rintro ⟨a, ha⟩
  match a with
  | 0 => exact congrArg (fun k => min (I k).toInt.toNat 7) h0
  | 1 => exact congrArg (fun k => min (I k).toInt.toNat 7) h1
  | 2 => exact Nat.zero_add (k : ℕ)

end Cert.ReferenceIdeal.Ref

end
-- ==== Proof.Ref.lean ====
/- The reference, stage by stage: each array the program binds, as a function of the arrays it is computed from. -/
module

public import proofs.«01_k».proof.Proof.Gathers

@[expose] public section

set_option maxRecDepth 16384

noncomputable section

namespace Cert.ReferenceIdeal.Ref

open Idealize.ShloMosaic Idealize.SL.Sem Idealize.ShloMosaic.TcCoe
open Cert.ReferenceIdeal Cert.ReferenceIdeal.Gen

/-- An index array with its negative entries counted from the end. -/
def wrap {s : Shape} (h : S_.BroadcastsInDim s (![] : Fin 0 → Fin s.rank)) (n : BitVec 32) (v : IVec s 32) : IVec s 32 :=
  select (cmpi .slt v (broadcastInDim s ![] h (constantI S_ 32 0#32)))
    (addi v (broadcastInDim s ![] h (constantI S_ 32 n))) v

/-- The block types as the indices of a table read. -/
def types (B : IVec S16x64 32) : IVec S16x64x1 32 :=
  broadcastInDim S16x64x1 ![0, 1] bcast_S16x64_S16x64x1_0_1 (wrap bcast_S_S16x64 32#32 B)

/-- A table of rows of four, at every block's type. -/
def rows (T : IVec S32x4 32) (B : IVec S16x64 32) : IVec S16x64x4 32 :=
  Host.gather gather_S32x4_S16x64x1_S16x64x4_2_0_n_n_0_2_14 T (types B)

/-- A table of words, at every block's type. -/
def words (T : IVec S32 32) (B : IVec S16x64 32) : IVec S16x64 32 :=
  Host.gather gather_S32_S16x64x1_S16x64_n_0_n_n_0_2_1 T (types B)

/-- The types of every slot. -/
def slots (T : IVec S32x4 32) (B : IVec S16x64 32) : IVec S16x256 32 :=
  shapeCast S16x256 (rows T B) shapeCasts_S16x64x4_S16x256

/-- The atom of every slot, numbered within its pose. -/
def atoms (T : IVec S32x4 32) (B : IVec S16x64 32) : IVec S16x256 32 :=
  shapeCast S16x256 (addi (rows T B) (broadcastInDim S16x64x4 ![0, 1, 2] bcast_S1x64x1_S16x64x4_0_1_2
    (broadcastInDim S1x64x1 ![1] bcast_S64_S1x64x1_1 (muli (iotaInDim S64 32 0)
      (broadcastInDim S64 ![] bcast_S_S64 (constantI S_ 32 32#32)))))) shapeCasts_S16x64x4_S16x256

/-- The number of every pose. -/
def poses : IVec S16x1 32 := broadcastInDim S16x1 ![0] bcast_S16_S16x1_0 (iotaInDim S16 32 0)

/-- The pose and the atom of every slot, side by side. -/
def places (A : IVec S16x256 32) : IVec S16x256x2 32 :=
  concatenate S16x256x2 2 [⟨S16x256x1, broadcastInDim S16x256x1 ![0, 1] bcast_S16x256_S16x256x1_0_1
      (broadcastInDim S16x256 ![0, 1] bcast_S16x1_S16x256_0_1 (wrap bcast_S_S16x1 16#32 poses))⟩,
    ⟨S16x256x1, broadcastInDim S16x256x1 ![0, 1] bcast_S16x256_S16x256x1_0_1 (wrap bcast_S_S16x256 2048#32 A)⟩]
    concatenates_S16x256x1_S16x256x1_S16x256x2_d2

/-- The coordinates of every slot's atom. -/
def coords (X : FVec Ideal S16x2048x3 .f32) (A : IVec S16x256 32) : FVec Ideal S16x256x3 .f32 :=
  Host.gather gather_S16x2048x3_S16x256x2_S16x256x3_2_01_n_n_01_2_113 X (places A)

/-- Which slots are in use. -/
def used (n : IVec S16x64 32) : IVec S16x256 1 :=
  shapeCast S16x256 (cmpi .slt (broadcastInDim S16x64x4 ![0, 1, 2] bcast_S1x1x4_S16x64x4_0_1_2
      (broadcastInDim S1x1x4 ![2] bcast_S4_S1x1x4_2 (iotaInDim S4 32 0)))
    (broadcastInDim S16x64x4 ![0, 1, 2] bcast_S16x64x1_S16x64x4_0_1_2
      (broadcastInDim S16x64x1 ![0, 1] bcast_S16x64_S16x64x1_0_1 n))) shapeCasts_S16x64x4_S16x256

/-- The difference of every pair of slots along every axis. -/
def diff (D E : FVec Ideal S16x256x3 .f32) : FVec Ideal S16x256x256x3 .f32 :=
  subf (broadcastInDim S16x256x256x3 ![0, 1, 2, 3] bcast_S16x256x1x3_S16x256x256x3_0_1_2_3
      (broadcastInDim S16x256x1x3 ![0, 1, 3] bcast_S16x256x3_S16x256x1x3_0_1_3 D))
    (broadcastInDim S16x256x256x3 ![0, 1, 2, 3] bcast_S16x1x256x3_S16x256x256x3_0_1_2_3
      (broadcastInDim S16x1x256x3 ![0, 2, 3] bcast_S16x256x3_S16x1x256x3_0_2_3 E))

/-- The distance of every pair of slots. -/
def dist (D E : FVec Ideal S16x256x3 .f32) : FVec Ideal S16x256x256 .f32 :=
  Host.sqrt (addf (Host.reduceAdd (mulf (diff D E) (diff D E)) (constant S_ .f32 0x00000000#32)
      reducesTo_S16x256x256x3_S16x256x256_d3 h_S_)
    (broadcastInDim S16x256x256 ![] bcast_S_S16x256x256 (constant S_ .f32 0x322BCC77#32)))

/-- The two types of every pair of slots, side by side. -/
def pairTypes (dt at' : IVec S16x256 32) : IVec S16x256x256x2 32 :=
  concatenate S16x256x256x2 3 [⟨S16x256x256x1, broadcastInDim S16x256x256x1 ![0, 1, 2] bcast_S16x256x256_S16x256x256x1_0_1_2
      (broadcastInDim S16x256x256 ![0, 1, 2] bcast_S16x256x1_S16x256x256_0_1_2 (wrap bcast_S_S16x256x1 8#32
        (broadcastInDim S16x256x1 ![0, 1] bcast_S16x256_S16x256x1_0_1 dt)))⟩,
    ⟨S16x256x256x1, broadcastInDim S16x256x256x1 ![0, 1, 2] bcast_S16x256x256_S16x256x256x1_0_1_2
      (broadcastInDim S16x256x256 ![0, 1, 2] bcast_S16x1x256_S16x256x256_0_1_2 (wrap bcast_S_S16x1x256 8#32
        (broadcastInDim S16x1x256 ![0, 2] bcast_S16x256_S16x1x256_0_2 at')))⟩]
    concatenates_S16x256x256x1_S16x256x256x1_S16x256x256x2_d3

/-- The polynomial of every pair of slots. -/
def polys (PL : FVec Ideal S8x8x11 .f32) (I : IVec S16x256x256x2 32) : FVec Ideal S16x256x256x11 .f32 :=
  Host.gather gather_S8x8x11_S16x256x256x2_S16x256x256x11_3_01_n_n_01_3_1111 PL I

/-- The parameters of every pair of slots. -/
def params (PP : FVec Ideal S8x8x3 .f32) (I : IVec S16x256x256x2 32) : FVec Ideal S16x256x256x3 .f32 :=
  Host.gather gather_S8x8x3_S16x256x256x2_S16x256x256x3_3_01_n_n_01_3_113 PP I

/-- One coefficient of every pair. -/
def coef (C : FVec Ideal S16x256x256x11 .f32) (k : ℕ) (h : S16x256x256x11.Slices ![0, 0, 0, k] S16x256x256x1) :
    FVec Ideal S16x256x256 .f32 :=
  shapeCast S16x256x256 (extractStridedSlice S16x256x256x1 ![0, 0, 0, k] C h) shapeCasts_S16x256x256x1_S16x256x256

/-- One parameter of every pair. -/
def param (C : FVec Ideal S16x256x256x3 .f32) (k : ℕ) (h : S16x256x256x3.Slices ![0, 0, 0, k] S16x256x256x1) :
    FVec Ideal S16x256x256 .f32 :=
  shapeCast S16x256x256 (extractStridedSlice S16x256x256x1 ![0, 0, 0, k] C h) shapeCasts_S16x256x256x1_S16x256x256

/-- A step of the polynomial's evaluation. -/
def step (v d c : FVec Ideal S16x256x256 .f32) : FVec Ideal S16x256x256 .f32 := addf (mulf v d) c

/-- The polynomial of every pair at its distance. -/
def poly (C : FVec Ideal S16x256x256x11 .f32) (d : FVec Ideal S16x256x256 .f32) : FVec Ideal S16x256x256 .f32 :=
  step (step (step (step (step (step (step (step (step (step (coef C 0 slices_S16x256x256x11_S16x256x256x1_0_0_0_0) d
    (coef C 1 slices_S16x256x256x11_S16x256x256x1_0_0_0_1)) d
    (coef C 2 slices_S16x256x256x11_S16x256x256x1_0_0_0_2)) d
    (coef C 3 slices_S16x256x256x11_S16x256x256x1_0_0_0_3)) d
    (coef C 4 slices_S16x256x256x11_S16x256x256x1_0_0_0_4)) d
    (coef C 5 slices_S16x256x256x11_S16x256x256x1_0_0_0_5)) d
    (coef C 6 slices_S16x256x256x11_S16x256x256x1_0_0_0_6)) d
    (coef C 7 slices_S16x256x256x11_S16x256x256x1_0_0_0_7)) d
    (coef C 8 slices_S16x256x256x11_S16x256x256x1_0_0_0_8)) d
    (coef C 9 slices_S16x256x256x11_S16x256x256x1_0_0_0_9)) d
    (coef C 10 slices_S16x256x256x11_S16x256x256x1_0_0_0_10)

/-- The least distance at which a pair counts. -/
def dmin (Q : FVec Ideal S16x256x256x3 .f32) : FVec Ideal S16x256x256 .f32 :=
  addf (broadcastInDim S16x256x256 ![] bcast_S_S16x256x256 (constant S_ .f32 0x3F000000#32))
    (param Q 0 slices_S16x256x256x3_S16x256x256x1_0_0_0_0)

/-- The greatest distance at which a pair counts. -/
def dmax (Q : FVec Ideal S16x256x256x3 .f32) : FVec Ideal S16x256x256 .f32 :=
  addf (addf (dmin Q) (broadcastInDim S16x256x256 ![] bcast_S_S16x256x256 (constant S_ .f32 0x40000000#32)))
    (param Q 1 slices_S16x256x256x3_S16x256x256x1_0_0_0_1)

/-- Which pairs count. -/
def counts (u v : IVec S16x256 1) (d : FVec Ideal S16x256x256 .f32) (Q : FVec Ideal S16x256x256x3 .f32) : IVec S16x256x256 1 :=
  andi (andi (andi (broadcastInDim S16x256x256 ![0, 1, 2] bcast_S16x256x1_S16x256x256_0_1_2
          (broadcastInDim S16x256x1 ![0, 1] bcast_S16x256_S16x256x1_0_1 u))
        (broadcastInDim S16x256x256 ![0, 1, 2] bcast_S16x1x256_S16x256x256_0_1_2
          (broadcastInDim S16x1x256 ![0, 2] bcast_S16x256_S16x1x256_0_2 v)))
      (cmpf .ogt d (dmin Q))) (cmpf .olt d (dmax Q))

/-- The energy of every pair. -/
def energy (X : FVec Ideal S16x2048x3 .f32) (B : IVec S16x64 32) (ND NA : IVec S32 32) (DL AL DT AT : IVec S32x4 32)
    (PP : FVec Ideal S8x8x3 .f32) (PL : FVec Ideal S8x8x11 .f32) (GP : FVec Ideal S1x5 .f32) : FVec Ideal S16x256x256 .f32 :=
  select (counts (used (words ND B)) (used (words NA B)) (dist (coords X (atoms DL B)) (coords X (atoms AL B)))
      (params PP (pairTypes (slots DT B) (slots AT B))))
    (mulf (poly (polys PL (pairTypes (slots DT B) (slots AT B))) (dist (coords X (atoms DL B)) (coords X (atoms AL B))))
      (broadcastInDim S16x256x256 ![] bcast_S_S16x256x256 (shapeCast S_ (extractStridedSlice S1x1 ![0, 0] GP slices_S1x5_S1x1_0_0)
        shapeCasts_S1x1_S_)))
    (broadcastInDim S16x256x256 ![] bcast_S_S16x256x256 (constant S_ .f32 0x00000000#32))

/-- The score of every pose. -/
def score (e : FVec Ideal S16x256x256 .f32) : FVec Ideal S16 .f32 :=
  Host.reduceAdd e (constant S_ .f32 0x00000000#32) reducesTo_S16x256x256_S16_d1_2 h_S_

/-- The place of every pose's least energy. -/
def place (e : FVec Ideal S16x256x256 .f32) : IVec S16 32 := fun j =>
  (Host.argReduce (reducer_argmin_f32_i32 (F := Ideal)) (shapeCast S16x65536 e shapeCasts_S16x256x256_S16x65536)
    (iotaInDim S16x65536 32 1) (constant S_ .f32 0x7F800000#32) (constantI S_ 32 0#32) reducesTo_S16x65536_S16_d1 h_S_ j).2

end Cert.ReferenceIdeal.Ref

end
-- ==== Proof.RefRun.lean ====
/- What the reference's run leaves in its result arrays, as the stages' functions of its arguments. -/
module

public import proofs.«01_k».proof.Proof.Ref

@[expose] public section

set_option maxRecDepth 65536

noncomputable section

namespace Cert.ReferenceIdeal.Ref

open Idealize.ShloMosaic Idealize.SL.Sem Idealize.ShloMosaic.TcCoe
open Cert.ReferenceIdeal Cert.ReferenceIdeal.Gen

/-- The energies of the program's arguments. -/
def energies (m : (ℓ : Loc nD τ sig) → Buf (Elt Ideal) ℓ) (c : Dev nD) : FVec Ideal S16x256x256 .f32 :=
  energy (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7))
    (m (c.tc.loc main_arg8)) (m (c.tc.loc main_arg9)) (m (c.tc.loc main_arg10))

set_option maxHeartbeats 4000000 in
/-- The reference's run: the scores and the places of its energies, its arguments as they were. -/
theorem run (m : (ℓ : Loc nD τ sig) → Buf (Elt Ideal) ℓ) (g : Dev nD → PrngReg) :
    θ_run (defs (F := Ideal)) (onTc (main (F := Ideal))) { mem := m, sem := fun _ => 0, prng := g } fun r => ∀ c : Dev nD,
      r.2.mem (c.tc.loc main_v207) = score (energies m c) ∧ r.2.mem (c.tc.loc main_v209) = place (energies m c)
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3)
        ∧ r.2.mem (c.tc.loc main_arg4) = m (c.tc.loc main_arg4)
        ∧ r.2.mem (c.tc.loc main_arg5) = m (c.tc.loc main_arg5)
        ∧ r.2.mem (c.tc.loc main_arg6) = m (c.tc.loc main_arg6)
        ∧ r.2.mem (c.tc.loc main_arg7) = m (c.tc.loc main_arg7)
        ∧ r.2.mem (c.tc.loc main_arg8) = m (c.tc.loc main_arg8)
        ∧ r.2.mem (c.tc.loc main_arg9) = m (c.tc.loc main_arg9)
        ∧ r.2.mem (c.tc.loc main_arg10) = m (c.tc.loc main_arg10) := by
  hlo_run
  all_goals rfl

end Cert.ReferenceIdeal.Ref

end
-- ==== Proof.RefRead.lean ====
/- The reference's energies, read at a pair of slots: those of the pose. -/
module

public import proofs.«01_k».proof.Proof.Ref

@[expose] public section

set_option maxRecDepth 16384

noncomputable section

namespace Cert.ReferenceIdeal.Ref

open Idealize.ShloMosaic Idealize.SL.Sem Idealize.ShloMosaic.TcCoe
open Cert.ReferenceIdeal Cert.ReferenceIdeal.Gen Cert.Spec

/-- A word below `2 ^ 31` is not negative. -/
theorem not_neg (w : BitVec 32) (h : w.toNat < 2 ^ 31) : IntOp.cmpi .slt w 0#32 = 0#1 := by
  have : ¬ w.toInt < 0 := by rw [BitVec.toInt_eq_toNat_cond]; split <;> omega
  simp [IntOp.cmpi, BitVec.slt, this]

/-- Such a word is its own index. -/
theorem wrap_at {s : Shape} (h : S_.BroadcastsInDim s (![] : Fin 0 → Fin s.rank)) (n : BitVec 32) (v : IVec s 32) (i : s.Idx)
    (hv : (v i).toNat < 2 ^ 31) : wrap h n v i = v i := by
  show Scalar.select (IntOp.cmpi .slt (v i) 0#32) _ (v i) = v i
  rw [not_neg _ hv]
  rfl

/-- A word in range is not clamped. -/
theorem clamp (w : BitVec 32) (n : ℕ) (h : w.toNat < n) (hn : n ≤ 2 ^ 31) : min w.toInt.toNat (n - 1) = w.toNat := by
  have : w.toInt = w.toNat := by rw [BitVec.toInt_eq_toNat_cond]; split <;> omega
  rw [this]
  omega

section
variable (B : IVec S16x64 32) (hB : ∀ i j, (B (ix2 i j)).toNat < 32)
include hB

theorem types_at (p : Fin 16) (b : Fin 64) : types B (ix3 p b 0) = B (ix2 p b) := by
  have h : types B (ix3 p b 0) = wrap bcast_S_S16x64 32#32 B (ix2 p b) := by pointwise [types]
  rw [h, wrap_at _ _ _ _ (by have := hB p b; omega)]

theorem rows_at (T : IVec S32x4 32) (p : Fin 16) (b : Fin 64) (s : Fin 4) :
    rows T B (ix3 p b s) = T (ix2 (Fin.ofNat 32 (B (ix2 p b)).toNat) s) := by
  rw [rows, gather4]
  exact congrArg (fun k => T (ix2 k s)) (Fin.ext (by
    show min (types B (ix3 p b 0)).toInt.toNat 31 = _
    rw [types_at B hB]
    exact (clamp _ 32 (hB p b) (by omega)).trans (Nat.mod_eq_of_lt (hB p b)).symm))

theorem words_at (T : IVec S32 32) (p : Fin 16) (b : Fin 64) :
    words T B (ix2 p b) = T (ix1 (Fin.ofNat 32 (B (ix2 p b)).toNat)) := by
  rw [words, gather1]
  exact congrArg (fun k => T (ix1 k)) (Fin.ext (by
    show min (types B (ix3 p b 0)).toInt.toNat 31 = _
    rw [types_at B hB]
    exact (clamp _ 32 (hB p b) (by omega)).trans (Nat.mod_eq_of_lt (hB p b)).symm))

theorem slots_at (T : IVec S32x4 32) (p : Fin 16) (i : Fin 256) :
    slots T B (ix2 p i) = T (ix2 (Fin.ofNat 32 (B (ix2 p (blk i))).toNat) (slot i)) := by
  have h : slots T B (ix2 p i) = rows T B (ix3 p (blk i) (slot i)) := by pointwise [slots, blk, slot]
  rw [h, rows_at B hB]

theorem atoms_at (T : IVec S32x4 32) (p : Fin 16) (i : Fin 256) :
    atoms T B (ix2 p i) = T (ix2 (Fin.ofNat 32 (B (ix2 p (blk i))).toNat) (slot i)) + BitVec.ofNat 32 (blk i) * 32#32 := by
  have h : atoms T B (ix2 p i) = rows T B (ix3 p (blk i) (slot i)) + BitVec.ofNat 32 (blk i) * 32#32 := by
    pointwise [atoms, blk, slot]
    rfl
  rw [h, rows_at B hB]

theorem used_at (ND : IVec S32 32) (p : Fin 16) (i : Fin 256) : used (words ND B) (ix2 p i)
    = IntOp.cmpi .slt (BitVec.ofNat 32 (slot i)) (ND (ix1 (Fin.ofNat 32 (B (ix2 p (blk i))).toNat))) := by
  have h : used (words ND B) (ix2 p i) = IntOp.cmpi .slt (BitVec.ofNat 32 (slot i)) (words ND B (ix2 p (blk i))) := by
    pointwise [used, blk, slot]
  rw [h, words_at B hB]

end

theorem coords_at (X : FVec Ideal S16x2048x3 .f32) (A : IVec S16x256 32) (p : Fin 16) (i : Fin 256) (c : Fin 3)
    (n : Fin 2048) (hA : (A (ix2 p i)).toNat = n) : coords X A (ix3 p i c) = X (ix3 p n c) := by
  have h0 : places A (ix3 p i 0) = wrap bcast_S_S16x1 16#32 poses (ix2 p 0) := by pointwise [places]
  have h1 : places A (ix3 p i 1) = wrap bcast_S_S16x256 2048#32 A (ix2 p i) := by pointwise [places]
  have h2 : poses (ix2 p 0) = BitVec.ofNat 32 p := by pointwise [poses]
  have h3 : (BitVec.ofNat 32 (p : ℕ)).toNat = p := by simp; omega
  rw [wrap_at _ _ _ _ (by rw [h2, h3]; omega), h2] at h0
  rw [wrap_at _ _ _ _ (by rw [hA]; omega)] at h1
  rw [coords, gatherX]
  refine congrArg₂ (fun a b => X (ix3 a b c)) (Fin.ext ?_) (Fin.ext ?_)
  · show min (places A (ix3 p i 0)).toInt.toNat 15 = _
    rw [h0]
    exact (clamp _ 16 (by rw [h3]; omega) (by omega)).trans h3
  · show min (places A (ix3 p i 1)).toInt.toNat 2047 = _
    rw [h1]
    exact (clamp _ 2048 (by rw [hA]; omega) (by omega)).trans hA

theorem dist_at (D E : FVec Ideal S16x256x3 .f32) (p : Fin 16) (i j : Fin 256) : dist D E (ix3 p i j)
    = Ideal.sqrt ((((D (ix3 p i 0) - E (ix3 p j 0)) * (D (ix3 p i 0) - E (ix3 p j 0))
      + (D (ix3 p i 1) - E (ix3 p j 1)) * (D (ix3 p i 1) - E (ix3 p j 1)))
      + (D (ix3 p i 2) - E (ix3 p j 2)) * (D (ix3 p i 2) - E (ix3 p j 2))) + Ideal.ofBits .f32 0x322BCC77#32) := by
  pointwise [dist, diff]
  rw [Fin.sum_univ_three]

/-- The two types of a pair of slots, in range. -/
theorem pairTypes_at (dt at' : IVec S16x256 32) (p : Fin 16) (i j : Fin 256) (hd : (dt (ix2 p i)).toNat < 8)
    (ha : (at' (ix2 p j)).toNat < 8) : pairTypes dt at' (ix4 p i j 0) = dt (ix2 p i) ∧ pairTypes dt at' (ix4 p i j 1) = at' (ix2 p j) := by
  have h0 : pairTypes dt at' (ix4 p i j 0) = wrap bcast_S_S16x256x1 8#32
      (broadcastInDim S16x256x1 ![0, 1] bcast_S16x256_S16x256x1_0_1 dt) (ix3 p i 0) := by pointwise [pairTypes]
  have h1 : pairTypes dt at' (ix4 p i j 1) = wrap bcast_S_S16x1x256 8#32
      (broadcastInDim S16x1x256 ![0, 2] bcast_S16x256_S16x1x256_0_2 at') (ix3 p 0 j) := by pointwise [pairTypes]
  have e0 : broadcastInDim S16x256x1 ![0, 1] bcast_S16x256_S16x256x1_0_1 dt (ix3 p i 0) = dt (ix2 p i) := by pointwise
  have e1 : broadcastInDim S16x1x256 ![0, 2] bcast_S16x256_S16x1x256_0_2 at' (ix3 p 0 j) = at' (ix2 p j) := by pointwise
  rw [wrap_at _ _ _ _ (by rw [e0]; omega), e0] at h0
  rw [wrap_at _ _ _ _ (by rw [e1]; omega), e1] at h1
  exact ⟨h0, h1⟩

theorem polys_at (PL : FVec Ideal S8x8x11 .f32) (dt at' : IVec S16x256 32) (p : Fin 16) (i j : Fin 256) (k : Fin 11)
    (hd : (dt (ix2 p i)).toNat < 8) (ha : (at' (ix2 p j)).toNat < 8) : polys PL (pairTypes dt at') (ix4 p i j k)
    = PL (ix3 (Fin.ofNat 8 (dt (ix2 p i)).toNat) (Fin.ofNat 8 (at' (ix2 p j)).toNat) k) := by
  rw [polys, gatherPL]
  refine congrArg₂ (fun a b => PL (ix3 a b k)) (Fin.ext ?_) (Fin.ext ?_)
  · show min (pairTypes dt at' (ix4 p i j 0)).toInt.toNat 7 = _
    rw [(pairTypes_at dt at' p i j hd ha).1]
    exact (clamp _ 8 hd (by omega)).trans (Nat.mod_eq_of_lt hd).symm
  · show min (pairTypes dt at' (ix4 p i j 1)).toInt.toNat 7 = _
    rw [(pairTypes_at dt at' p i j hd ha).2]
    exact (clamp _ 8 ha (by omega)).trans (Nat.mod_eq_of_lt ha).symm

theorem params_at (PP : FVec Ideal S8x8x3 .f32) (dt at' : IVec S16x256 32) (p : Fin 16) (i j : Fin 256) (k : Fin 3)
    (hd : (dt (ix2 p i)).toNat < 8) (ha : (at' (ix2 p j)).toNat < 8) : params PP (pairTypes dt at') (ix4 p i j k)
    = PP (ix3 (Fin.ofNat 8 (dt (ix2 p i)).toNat) (Fin.ofNat 8 (at' (ix2 p j)).toNat) k) := by
  rw [params, gatherPP]
  refine congrArg₂ (fun a b => PP (ix3 a b k)) (Fin.ext ?_) (Fin.ext ?_)
  · show min (pairTypes dt at' (ix4 p i j 0)).toInt.toNat 7 = _
    rw [(pairTypes_at dt at' p i j hd ha).1]
    exact (clamp _ 8 hd (by omega)).trans (Nat.mod_eq_of_lt hd).symm
  · show min (pairTypes dt at' (ix4 p i j 1)).toInt.toNat 7 = _
    rw [(pairTypes_at dt at' p i j hd ha).2]
    exact (clamp _ 8 ha (by omega)).trans (Nat.mod_eq_of_lt ha).symm

theorem coef_at (C : FVec Ideal S16x256x256x11 .f32) (k : ℕ) (hk : k < 11) (h : S16x256x256x11.Slices ![0, 0, 0, k] S16x256x256x1)
    (p : Fin 16) (i j : Fin 256) : coef C k h (ix3 p i j) = C (ix4 p i j ⟨k, hk⟩) := by
  interval_cases k <;> pointwise [coef]

theorem param_at (C : FVec Ideal S16x256x256x3 .f32) (k : ℕ) (hk : k < 3) (h : S16x256x256x3.Slices ![0, 0, 0, k] S16x256x256x1)
    (p : Fin 16) (i j : Fin 256) : param C k h (ix3 p i j) = C (ix4 p i j ⟨k, hk⟩) := by
  interval_cases k <;> pointwise [param]

theorem step_at (v d c : FVec Ideal S16x256x256 .f32) (i : S16x256x256.Idx) : step v d c i = v i * d i + c i := rfl

theorem dmin_at (Q : FVec Ideal S16x256x256x3 .f32) (p : Fin 16) (i j : Fin 256) :
    dmin Q (ix3 p i j) = Ideal.ofBits .f32 0x3F000000#32 + Q (ix4 p i j 0) := by
  exact congrArg (Ideal.ofBits .f32 0x3F000000#32 + ·) (param_at Q 0 (by omega) slices_S16x256x256x3_S16x256x256x1_0_0_0_0 p i j)

theorem dmax_at (Q : FVec Ideal S16x256x256x3 .f32) (p : Fin 16) (i j : Fin 256) :
    dmax Q (ix3 p i j) = (dmin Q (ix3 p i j) + Ideal.ofBits .f32 0x40000000#32) + Q (ix4 p i j 1) := by
  exact congrArg ((dmin Q (ix3 p i j) + Ideal.ofBits .f32 0x40000000#32) + ·)
    (param_at Q 1 (by omega) slices_S16x256x256x3_S16x256x256x1_0_0_0_1 p i j)

/-- A bit is either clear or set, and both of a conjunction are set together. -/
theorem and_bits (a b : BitVec 1) : a &&& b = 1#1 ↔ a = 1#1 ∧ b = 1#1 := by
  revert a b; decide

theorem ofBool_bit (b : Bool) : BitVec.ofBool b = 1#1 ↔ b = true := by
  cases b <;> simp

theorem slt_bit (a b : BitVec 32) : IntOp.cmpi .slt a b = 1#1 ↔ a.slt b = true := by
  show BitVec.ofBool (a.slt b) = 1#1 ↔ _
  cases a.slt b <;> simp

theorem counts_at (u v : IVec S16x256 1) (d : FVec Ideal S16x256x256 .f32) (Q : FVec Ideal S16x256x256x3 .f32)
    (p : Fin 16) (i j : Fin 256) : counts u v d Q (ix3 p i j) = 1#1 ↔ (((u (ix2 p i) = 1#1 ∧ v (ix2 p j) = 1#1)
      ∧ dmin Q (ix3 p i j) < d (ix3 p i j)) ∧ d (ix3 p i j) < dmax Q (ix3 p i j)) := by
  have h : counts u v d Q (ix3 p i j) = (((u (ix2 p i) &&& v (ix2 p j)) &&& BitVec.ofBool (decide (dmin Q (ix3 p i j) < d (ix3 p i j))))
      &&& BitVec.ofBool (decide (d (ix3 p i j) < dmax Q (ix3 p i j)))) := by
    have hu : broadcastInDim S16x256x256 ![0, 1, 2] bcast_S16x256x1_S16x256x256_0_1_2
        (broadcastInDim S16x256x1 ![0, 1] bcast_S16x256_S16x256x1_0_1 u) (ix3 p i j) = u (ix2 p i) := by pointwise
    have hv : broadcastInDim S16x256x256 ![0, 1, 2] bcast_S16x1x256_S16x256x256_0_1_2
        (broadcastInDim S16x1x256 ![0, 2] bcast_S16x256_S16x1x256_0_2 v) (ix3 p i j) = v (ix2 p j) := by pointwise
    rw [← hu, ← hv]
    rfl
  rw [h, and_bits, and_bits, and_bits]
  simp only [ofBool_bit, decide_eq_true_eq]

section
variable {X : FVec Ideal S16x2048x3 .f32} {B : IVec S16x64 32} {ND NA : IVec S32 32} {DL AL DT AT : IVec S32x4 32}
  {PP : FVec Ideal S8x8x3 .f32} {PL : FVec Ideal S8x8x11 .f32} {GP : FVec Ideal S1x5 .f32}

/-- The coordinates of a slot's atom: those of its block's atom of the slot table. -/
theorem slot_coords (hB : ∀ i j, (B (ix2 i j)).toNat < 32) (T : IVec S32x4 32) (hT : ∀ i j, (T (ix2 i j)).toNat < 32)
    (p : Fin 16) (i : Fin 256) (c : Fin 3) : coords X (atoms T B) (ix3 p i c)
      = X (ix3 p ⟨(blk i : ℕ) * 32 + (Fin.ofNat 32 (T (ix2 (Fin.ofNat 32 (B (ix2 p (blk i))).toNat) (slot i))).toNat : Fin 32),
          by omega⟩ c) := by
  refine coords_at X _ p i c _ ?_
  rw [atoms_at B hB]
  have h := hT (Fin.ofNat 32 (B (ix2 p (blk i))).toNat) (slot i)
  show _ = (blk i : ℕ) * 32 + (T (ix2 (Fin.ofNat 32 (B (ix2 p (blk i))).toNat) (slot i))).toNat % 32
  rw [BitVec.toNat_add, BitVec.toNat_mul, BitVec.toNat_ofNat]
  have := (blk i).isLt
  simp only [BitVec.reduceToNat]
  omega

variable (H : Good B DL AL DT AT PP PL)
include H

/-- The distance of a pair of slots. -/
theorem pair_dist (p : Fin 16) (i j : Fin 256) : dist (coords X (atoms DL B)) (coords X (atoms AL B)) (ix3 p i j)
    = (poseOf X B ND NA DL AL DT AT PP PL GP p).dist i j := by
  rw [dist_at]
  simp only [slot_coords H.B DL H.DL, slot_coords H.B AL H.AL]
  rfl

theorem pair_coef (p : Fin 16) (i j : Fin 256) (k : Fin 11) :
    polys PL (pairTypes (slots DT B) (slots AT B)) (ix4 p i j k)
      = (poseOf X B ND NA DL AL DT AT PP PL GP p).coef ⟨k, by omega⟩ i j := by
  have hd : (slots DT B (ix2 p i)).toNat < 8 := by rw [slots_at B H.B]; exact H.DT _ _
  have ha : (slots AT B (ix2 p j)).toNat < 8 := by rw [slots_at B H.B]; exact H.AT _ _
  rw [polys_at PL _ _ p i j k hd ha, slots_at B H.B, slots_at B H.B]
  exact (tab_hi X B ND NA DL AL DT AT PP PL GP p _ _ ⟨k, by omega⟩ k.isLt).symm

theorem pair_param (p : Fin 16) (i j : Fin 256) (k : Fin 2) :
    params PP (pairTypes (slots DT B) (slots AT B)) (ix4 p i j ⟨k, by omega⟩)
      = (poseOf X B ND NA DL AL DT AT PP PL GP p).coef ⟨11 + k, by omega⟩ i j := by
  have hd : (slots DT B (ix2 p i)).toNat < 8 := by rw [slots_at B H.B]; exact H.DT _ _
  have ha : (slots AT B (ix2 p j)).toNat < 8 := by rw [slots_at B H.B]; exact H.AT _ _
  rw [params_at PP _ _ p i j _ hd ha, slots_at B H.B, slots_at B H.B]
  refine Eq.trans ?_ (tab_lo X B ND NA DL AL DT AT PP PL GP p _ _ ⟨11 + k, by omega⟩ (by simp)).symm
  exact congrArg (fun l => PP (ix3 _ _ l)) (Fin.ext (show (k : ℕ) = 11 + k - 11 by omega))

theorem pair_poly (p : Fin 16) (i j : Fin 256) :
    poly (polys PL (pairTypes (slots DT B) (slots AT B))) (dist (coords X (atoms DL B)) (coords X (atoms AL B))) (ix3 p i j)
      = (poseOf X B ND NA DL AL DT AT PP PL GP p).poly i j := by
  have hc (k : ℕ) (hk : k < 11) (h) : coef (polys PL (pairTypes (slots DT B) (slots AT B))) k h (ix3 p i j)
      = (poseOf X B ND NA DL AL DT AT PP PL GP p).coef ⟨k, by omega⟩ i j := by
    rw [coef_at _ k hk, pair_coef (ND := ND) (NA := NA) (GP := GP) H p i j ⟨k, hk⟩]
  rw [poly]
  simp only [step_at, pair_dist (ND := ND) (NA := NA) (GP := GP) H]
  rw [hc 0 (by omega), hc 1 (by omega), hc 2 (by omega), hc 3 (by omega), hc 4 (by omega), hc 5 (by omega), hc 6 (by omega),
    hc 7 (by omega), hc 8 (by omega), hc 9 (by omega), hc 10 (by omega)]
  rfl

theorem pair_dmin (p : Fin 16) (i j : Fin 256) : dmin (params PP (pairTypes (slots DT B) (slots AT B))) (ix3 p i j)
    = (poseOf X B ND NA DL AL DT AT PP PL GP p).dmin i j :=
  (dmin_at _ p i j).trans (congrArg (Ideal.ofBits .f32 0x3F000000#32 + ·) (pair_param H p i j 0))

theorem pair_dmax (p : Fin 16) (i j : Fin 256) : dmax (params PP (pairTypes (slots DT B) (slots AT B))) (ix3 p i j)
    = (poseOf X B ND NA DL AL DT AT PP PL GP p).dmax i j := by
  rw [dmax_at, pair_dmin (ND := ND) (NA := NA) (GP := GP) H]
  exact congrArg (((poseOf X B ND NA DL AL DT AT PP PL GP p).dmin i j + Ideal.ofBits .f32 0x40000000#32) + ·) (pair_param H p i j 1)

theorem pair_counts (p : Fin 16) (i j : Fin 256) :
    counts (used (words ND B)) (used (words NA B)) (dist (coords X (atoms DL B)) (coords X (atoms AL B)))
      (params PP (pairTypes (slots DT B) (slots AT B))) (ix3 p i j) = 1#1
        ↔ (poseOf X B ND NA DL AL DT AT PP PL GP p).counts i j := by
  rw [counts_at, used_at B H.B, used_at B H.B, slt_bit, slt_bit, pair_dmin (ND := ND) (NA := NA) (GP := GP) H,
    pair_dmax (ND := ND) (NA := NA) (GP := GP) H, pair_dist (ND := ND) (NA := NA) (GP := GP) H]
  rfl

/-- The reference's energies are those of the poses. -/
theorem energy_at (p : Fin 16) (i j : Fin 256) : energy X B ND NA DL AL DT AT PP PL GP (ix3 p i j)
    = (poseOf X B ND NA DL AL DT AT PP PL GP p).energy i j := by
  classical
  have hg : broadcastInDim S16x256x256 ![] bcast_S_S16x256x256 (shapeCast S_ (extractStridedSlice S1x1 ![0, 0] GP slices_S1x5_S1x1_0_0)
      shapeCasts_S1x1_S_) (ix3 p i j) = GP (ix2 0 0) := by pointwise
  have h : energy X B ND NA DL AL DT AT PP PL GP (ix3 p i j)
      = Scalar.select (counts (used (words ND B)) (used (words NA B)) (dist (coords X (atoms DL B)) (coords X (atoms AL B)))
          (params PP (pairTypes (slots DT B) (slots AT B))) (ix3 p i j))
        (poly (polys PL (pairTypes (slots DT B) (slots AT B))) (dist (coords X (atoms DL B)) (coords X (atoms AL B))) (ix3 p i j)
          * GP (ix2 0 0)) (Ideal.ofBits .f32 0x00000000#32) := by
    rw [← hg]
    rfl
  rw [h, pair_poly (ND := ND) (NA := NA) (GP := GP) H, Ideal.ofBits_zero_f32]
  have hs (b : BitVec 1) (x y : EReal) : Scalar.select b x y = if b = 1#1 then x else y := by
    rcases BitVec.eq_zero_or_eq_one b with e | e <;> subst e <;> rfl
  rw [hs, Pose.energy]
  exact if_congr (pair_counts H p i j) rfl rfl

end

end Cert.ReferenceIdeal.Ref

end
-- ==== Proof.RefArgmin.lean ====
/- The reference's results: the sum of a pose's energies and the first place of the least. -/
module

public import proofs.«01_k».proof.Proof.Ref

@[expose] public section

set_option maxRecDepth 16384

noncomputable section

namespace Cert.ReferenceIdeal.Ref

open Idealize.ShloMosaic Idealize.SL.Sem Idealize.ShloMosaic.TcCoe
open Cert.ReferenceIdeal Cert.ReferenceIdeal.Gen Cert.Spec

/-- A pose's score is the sum over its pairs. -/
theorem score_at (e : FVec Ideal S16x256x256 .f32) (p : Fin 16) : score e (ix1 p) = ∑ i, ∑ j, e (ix3 p i j) := by
  pointwise [score]

/-- A pair of a value and a place comes no later than another: a lesser value, or the same and a place no later. -/
def Before (a b : EReal × BitVec 32) : Prop := a.1 < b.1 ∨ (a.1 = b.1 ∧ a.2.toInt ≤ b.2.toInt)

theorem Before.refl (a : EReal × BitVec 32) : Before a a := Or.inr ⟨rfl, le_rfl⟩

theorem Before.trans {a b c : EReal × BitVec 32} (h : Before a b) (k : Before b c) : Before a c := by
  rcases h with h | ⟨h, h'⟩ <;> rcases k with k | ⟨k, k'⟩
  · exact Or.inl (h.trans k)
  · exact Or.inl (k ▸ h)
  · exact Or.inl (h ▸ k)
  · exact Or.inr ⟨h.trans k, h'.trans k'⟩

/-- A step of the reduction keeps one of the two, and one that comes no later than either. -/
theorem step_spec (a b : EReal × BitVec 32) : (reducer_argmin_f32_i32 (F := Ideal) a b = a ∨ reducer_argmin_f32_i32 (F := Ideal) a b = b)
    ∧ Before (reducer_argmin_f32_i32 (F := Ideal) a b) a ∧ Before (reducer_argmin_f32_i32 (F := Ideal) a b) b := by
  obtain ⟨x, i⟩ := a
  obtain ⟨y, j⟩ := b
  rcases lt_trichotomy x y with h | h | h
  · have e : reducer_argmin_f32_i32 (F := Ideal) (x, i) (y, j) = (x, i) := by
      simp [reducer_argmin_f32_i32, FloatOps.cmpf, Ideal.cmp, h, ne_of_lt h, IntOp.ori, IntOp.andi, Scalar.select]
    rw [e]
    exact ⟨Or.inl rfl, Before.refl _, Or.inl h⟩
  · subst h
    by_cases k : i.toInt < j.toInt
    · have e : reducer_argmin_f32_i32 (F := Ideal) (x, i) (x, j) = (x, i) := by
        simp [reducer_argmin_f32_i32, FloatOps.cmpf, Ideal.cmp, IntOp.cmpi, BitVec.slt, k, IntOp.ori, IntOp.andi, Scalar.select]
      rw [e]
      exact ⟨Or.inl rfl, Before.refl _, Or.inr ⟨rfl, k.le⟩⟩
    · have e : reducer_argmin_f32_i32 (F := Ideal) (x, i) (x, j) = (x, j) := by
        simp [reducer_argmin_f32_i32, FloatOps.cmpf, Ideal.cmp, IntOp.cmpi, BitVec.slt, k, IntOp.ori, IntOp.andi, Scalar.select]
      rw [e]
      exact ⟨Or.inr rfl, Or.inr ⟨rfl, by simpa using k⟩, Before.refl _⟩
  · have e : reducer_argmin_f32_i32 (F := Ideal) (x, i) (y, j) = (y, j) := by
      simp [reducer_argmin_f32_i32, FloatOps.cmpf, Ideal.cmp, not_lt_of_gt h, ne_of_gt h, IntOp.ori, IntOp.andi, Scalar.select]
    rw [e]
    exact ⟨Or.inr rfl, Or.inl h, Before.refl _⟩

/-- The reduction of a list leaves one of its pairs or the first, and none comes before it. -/
theorem foldl_spec (l : List (EReal × BitVec 32)) : ∀ a : EReal × BitVec 32,
    (l.foldl (reducer_argmin_f32_i32 (F := Ideal)) a = a ∨ l.foldl (reducer_argmin_f32_i32 (F := Ideal)) a ∈ l)
      ∧ Before (l.foldl (reducer_argmin_f32_i32 (F := Ideal)) a) a
      ∧ ∀ b ∈ l, Before (l.foldl (reducer_argmin_f32_i32 (F := Ideal)) a) b := by
  induction l with
  | nil => exact fun a => ⟨Or.inl rfl, Before.refl a, fun b h => absurd h List.not_mem_nil⟩
  | cons b l ih =>
    intro a
    obtain ⟨h1, h2, h3⟩ := step_spec a b
    obtain ⟨k1, k2, k3⟩ := ih (reducer_argmin_f32_i32 (F := Ideal) a b)
    rw [List.foldl_cons]
    refine ⟨?_, k2.trans h2, fun d hd => ?_⟩
    · rcases k1 with k1 | k1
      · rw [k1]
        exact h1.imp_right fun h => List.mem_cons.2 (Or.inl h)
      · exact Or.inr (List.mem_cons_of_mem _ k1)
    · rcases List.mem_cons.1 hd with rfl | hd
      · exact k2.trans h3
      · exact k3 d hd

/-- A place below `2 ^ 31` reads as itself. -/
theorem toInt_place (n : Fin 65536) : (BitVec.ofNat 32 (n : ℕ)).toInt = n := by
  rw [BitVec.toInt_eq_toNat_cond, BitVec.toNat_ofNat]
  have := n.isLt
  split <;> omega

/-- The reduction of a row's values with their places, from the top, leaves the first place of the least. -/
theorem foldl_firstMin (f : Fin 65536 → EReal) (n : Fin 65536) (hn : FirstMin f n) (l : List (EReal × BitVec 32))
    (hl : ∀ q, q ∈ l ↔ ∃ k : Fin 65536, q = (f k, BitVec.ofNat 32 (k : ℕ))) :
    (l.foldl (reducer_argmin_f32_i32 (F := Ideal)) ((⊤ : EReal), 0#32)).2 = BitVec.ofNat 32 (n : ℕ) := by
  obtain ⟨h1, h2, h3⟩ := foldl_spec l ((⊤ : EReal), 0#32)
  have hb := h3 _ ((hl _).2 ⟨n, rfl⟩)
  rcases h1 with h1 | h1
  · rw [h1] at hb ⊢
    rcases hb with hb | ⟨hb, -⟩
    · exact absurd hb not_top_lt
    · rcases Nat.eq_zero_or_pos (n : ℕ) with h0 | h0
      · rw [h0]
      · exact absurd (hn.2 ⟨0, by omega⟩ h0) (by rw [← show (⊤ : EReal) = f n from hb]; exact not_top_lt)
  · obtain ⟨k, hk⟩ := (hl _).1 h1
    rw [hk] at hb ⊢
    rcases hb with hb | ⟨hb, hi⟩
    · exact absurd hb (not_lt.2 (hn.1 k))
    · rw [toInt_place, toInt_place] at hi
      rcases lt_or_eq_of_le (show k ≤ n from by omega) with h | h
      · exact absurd (hn.2 k h) (by rw [show f k = f n from hb]; exact lt_irrefl _)
      · rw [h]

/-- A row index by its two coordinates. -/
theorem row_idx (i : S16x65536.Idx) : i = ix2 (i 0) (i 1) := by
  funext a
  fin_cases a <;> rfl

theorem drop_row (p : Fin 16) (k : Fin 65536) : reducesTo_S16x65536_S16_d1.drop (ix2 p k) = ix1 p := by
  funext a
  fin_cases a
  rfl

/-- The energies in one row. -/
theorem flat_row (e : FVec Ideal S16x256x256 .f32) (p : Fin 16) (k : Fin 65536) :
    shapeCast S16x65536 e shapeCasts_S16x256x256_S16x65536 (ix2 p k) = e (ix3 p ⟨k / 256, by omega⟩ ⟨k % 256, by omega⟩) := by
  pointwise

/-- A pose's place is the first of its least energy. -/
theorem place_at (e : FVec Ideal S16x256x256 .f32) (p : Fin 16) (n : Fin 65536)
    (hn : FirstMin (fun k : Fin 65536 => e (ix3 p ⟨k / 256, by omega⟩ ⟨k % 256, by omega⟩)) n) :
    place e (ix1 p) = BitVec.ofNat 32 (n : ℕ) := by
  rw [place, Ideal.argReduce_eq_reduce2, Host.reduce2_eq_foldl_fiber]
  have hT : (constant S_ .f32 0x7F800000#32 : FVec Ideal S_ .f32) (Shape.Idx.first h_S_) = (⊤ : EReal) := by
    show Ideal.ofBits .f32 0x7F800000#32 = ⊤
    simp [Ideal.ofBits, Ideal.ieee]
  rw [hT]
  refine foldl_firstMin _ n hn _ fun q => ?_
  rw [Host.argReduceFiber, List.mem_map]
  constructor
  · rintro ⟨i, hi, rfl⟩
    rw [List.mem_filter, decide_eq_true_eq] at hi
    obtain ⟨a, k, e'⟩ : ∃ (a : Fin 16) (k : Fin 65536), S16x65536.rowMajor.symm i = ix2 a k := ⟨_, _, row_idx _⟩
    rw [e'] at hi ⊢
    have h : (ix1 a : S16.Idx) = ix1 p := (drop_row a k).symm.trans hi.2
    have ha : a = p := congrFun h 0
    subst ha
    exact ⟨k, by rw [flat_row]; rfl⟩
  · rintro ⟨k, rfl⟩
    refine ⟨S16x65536.rowMajor (ix2 p k), ?_, ?_⟩
    · rw [List.mem_filter, decide_eq_true_eq, Equiv.symm_apply_apply]
      exact ⟨List.mem_finRange _, drop_row p k⟩
    · rw [Equiv.symm_apply_apply, flat_row]
      rfl

end Cert.ReferenceIdeal.Ref

end
-- ==== Proof.Stages.lean ====
/- What one pose computes, stage by stage: each vector the body binds for a pose, as a function of the vectors it is
   computed from. The two halves of the body (the two poses of a block) are both this computation. -/
module

public import proofs.«01_k».proof.Proof.Gen.KernelIdeal.Frame

@[expose] public section

set_option maxRecDepth 16384

noncomputable section

namespace Cert.KernelIdeal.Pose

open Idealize.ShloMosaic Idealize.SL.Sem
open Cert.KernelIdeal Cert.KernelIdeal.Gen

variable {F : FTy → Type} [FloatOps F]

/-- Floor division of every word of a vector by one word, as the body writes it out. -/
def fdiv {s : Shape} (c : BitVec 32) (v : IVec s 32) : IVec s 32 :=
  select (andi (cmpi .ne (subi (extui 32 (cmpi .sgt v (broadcast s 0#32)) natLt_1_32)
        (extui 32 (cmpi .slt v (broadcast s 0#32)) natLt_1_32))
      (broadcast s (Scalar.subi (Scalar.extui (Scalar.cmpi .sgt c 0#32)) (Scalar.extui (Scalar.cmpi .slt c 0#32)))))
      (cmpi .ne (remsi v (broadcast s c)) (broadcast s 0#32)))
    (subi (divsi v (broadcast s c)) (broadcast s 1#32)) (divsi v (broadcast s c))

/-- Floor remainder of every word of a vector by one word, as the body writes it out. -/
def fmod {s : Shape} (h : s.Broadcasts s) (c : BitVec 32) (v : IVec s 32) : IVec s 32 :=
  select (andi (xori (cmpi .slt (remsi v (broadcast s (Scalar.select (Scalar.cmpi .eq c 0#32) 1#32 c))) (broadcast s 0#32))
        (broadcastTo s (broadcast s (Scalar.cmpi .slt (Scalar.select (Scalar.cmpi .eq c 0#32) 1#32 c) 0#32)) h))
      (cmpi .ne (remsi v (broadcast s (Scalar.select (Scalar.cmpi .eq c 0#32) 1#32 c))) (broadcast s 0#32)))
    (addi (remsi v (broadcast s (Scalar.select (Scalar.cmpi .eq c 0#32) 1#32 c)))
      (broadcast s (Scalar.select (Scalar.cmpi .eq c 0#32) 1#32 c)))
    (remsi v (broadcast s (Scalar.select (Scalar.cmpi .eq c 0#32) 1#32 c)))

/-- Row `i` marks the block `i / 4` it belongs to. -/
def rowBlock : FVec F S256x64 .f32 :=
  sitofp .f32 (extui 32 (cmpi .eq (fdiv 4#32 (iota .tc S256x64 32 [0] iota_S256x64_d0_w32))
    (iota .tc S256x64 32 [1] iota_S256x64_d1_w32)) natLt_1_32)

/-- The block type of every row, as a word. -/
def rowType (bc : FVec F S64x1 .bf16) : IVec S256x1 32 :=
  fptosi 32 (matmul dot_S256x64_S64x1_S256x1_1_0_0_1_n_n none (truncf .bf16 (rowBlock (F := F)) bitsLt_bf16_f32) bc
    (constant S256x1 .f32 0x00000000#32))

/-- Row `i` marks the row of the donor table for its block type and its slot. -/
def rowMark (bc : FVec F S64x1 .bf16) : FVec F S256x128 .f32 :=
  sitofp .f32 (extui 32 (andi
    (cmpi .eq (broadcastTo S256x128 (rowType bc) broadcasts_S256x1_S256x128)
      (fdiv 4#32 (iota .tc S256x128 32 [1] iota_S256x128_d1_w32)))
    (cmpi .eq (fmod broadcasts_S256x128_S256x128 4#32 (iota .tc S256x128 32 [0] iota_S256x128_d0_w32))
      (fmod broadcasts_S256x128_S256x128 4#32 (iota .tc S256x128 32 [1] iota_S256x128_d1_w32)))) natLt_1_32)

/-- The table row of every donor slot. -/
def rowData (bc : FVec F S64x1 .bf16) (rt : FVec F S128x11 .bf16) : FVec F S256x11 .f32 :=
  matmul dot_S256x128_S128x11_S256x11_1_0_0_1_n_n none (truncf .bf16 (rowMark bc) bitsLt_bf16_f32) rt
    (constant S256x11 .f32 0x00000000#32)

/-- Which rows hold a donor. -/
def rowMask (D : FVec F S256x11 .f32) : IVec S256x1 1 :=
  cmpi .slt (fmod broadcasts_S256x1_S256x1 4#32 (iota .tc S256x1 32 [0] iota_S256x1_d0_w32))
    (fptosi 32 (extractStridedSlice S256x1 ![0, 1] D slices_S256x11_o0_1_S256x1))

/-- The donor type marks of every row. -/
def rowTy (D : FVec F S256x11 .f32) : FVec F S256x8 .f32 :=
  extractStridedSlice S256x8 ![0, 3] D slices_S256x11_o0_3_S256x8

/-- Column `j` marks the block `j / 4` it belongs to. -/
def colBlock : FVec F S64x256 .f32 :=
  sitofp .f32 (extui 32 (cmpi .eq (fdiv 4#32 (iota .tc S64x256 32 [1] iota_S64x256_d1_w32))
    (iota .tc S64x256 32 [0] iota_S64x256_d0_w32)) natLt_1_32)

/-- The block type of every column, as a word. -/
def colType (br : FVec F S1x64 .bf16) : IVec S1x256 32 :=
  fptosi 32 (matmul dot_S1x64_S64x256_S1x256_1_0_0_1_n_n none br (truncf .bf16 (colBlock (F := F)) bitsLt_bf16_f32)
    (constant S1x256 .f32 0x00000000#32))

/-- Column `j` marks the column of the acceptor table for its block type and its slot. -/
def colMark (br : FVec F S1x64 .bf16) : FVec F S128x256 .f32 :=
  sitofp .f32 (extui 32 (andi
    (cmpi .eq (broadcastTo S128x256 (colType br) broadcasts_S1x256_S128x256)
      (fdiv 4#32 (iota .tc S128x256 32 [0] iota_S128x256_d0_w32)))
    (cmpi .eq (fmod broadcasts_S128x256_S128x256 4#32 (iota .tc S128x256 32 [1] iota_S128x256_d1_w32))
      (fmod broadcasts_S128x256_S128x256 4#32 (iota .tc S128x256 32 [0] iota_S128x256_d0_w32)))) natLt_1_32)

/-- The table column of every acceptor slot. -/
def colData (br : FVec F S1x64 .bf16) (ct : FVec F S10x128 .bf16) : FVec F S10x256 .f32 :=
  matmul dot_S10x128_S128x256_S10x256_1_0_0_1_n_n none ct (truncf .bf16 (colMark br) bitsLt_bf16_f32)
    (constant S10x256 .f32 0x00000000#32)

/-- Which columns hold an acceptor. -/
def colMask (D : FVec F S10x256 .f32) : IVec S1x256 1 :=
  cmpi .slt (fmod broadcasts_S1x256_S1x256 4#32 (iota .tc S1x256 32 [1] iota_S1x256_d1_w32))
    (fptosi 32 (extractStridedSlice S1x256 ![1, 0] D slices_S10x256_o1_0_S1x256))

/-- The acceptor type marks of every column. -/
def colTy (D : FVec F S10x256 .f32) : FVec F S8x256 .f32 :=
  extractStridedSlice S8x256 ![2, 0] D slices_S10x256_o2_0_S8x256

/-- The coordinates of every row's block. -/
def rowXyz (x9 : FVec F S64x288 .bf16) : FVec F S256x288 .f32 :=
  matmul dot_S256x64_S64x288_S256x288_1_0_0_1_n_n none (truncf .bf16 (rowBlock (F := F)) bitsLt_bf16_f32) x9
    (constant S256x288 .f32 0x00000000#32)

/-- The coordinates of one atom of every row's block, zero elsewhere. -/
def pick (l : IVec S256x1 32) (M : FVec F S256x288 .f32) : FVec F S256x288 .f32 :=
  select (cmpi .eq (fdiv 3#32 (fmod broadcasts_S256x288_S256x288 96#32 (iota .tc S256x288 32 [1] iota_S256x288_d1_w32)))
      (broadcastTo S256x288 l broadcasts_S256x1_S256x288)) M (broadcast S256x288 (Scalar.ofBits .f32 0x00000000#32))

/-- Row `c` marks the part and the axis that lane `c` belongs to. -/
def laneMark : FVec F S288x9 .f32 :=
  sitofp .f32 (extui 32 (cmpi .eq (iota .tc S288x9 32 [1] iota_S288x9_d1_w32)
    (addi (muli (fdiv 96#32 (iota .tc S288x9 32 [0] iota_S288x9_d0_w32)) (broadcast S288x9 3#32))
      (fmod broadcasts_S288x9_S288x9 3#32 (iota .tc S288x9 32 [0] iota_S288x9_d0_w32)))) natLt_1_32)

/-- The three parts of the picked atom's coordinates. -/
def parts (l : IVec S256x1 32) (M : FVec F S256x288 .f32) : FVec F S256x9 .f32 :=
  matmul dot_S256x288_S288x9_S256x9_1_0_0_1_n_n none (truncf .bf16 (pick l M) bitsLt_bf16_f32)
    (truncf .bf16 (laneMark (F := F)) bitsLt_bf16_f32) (constant S256x9 .f32 0x00000000#32)

/-- The donor's and the acceptor's difference along one axis, squared. -/
def sq (a : FVec F S256x1 .f32) (b : FVec F S1x256 .f32) : FVec F S256x256 .f32 :=
  mulf (subf (broadcastTo S256x256 a broadcasts_S256x1_S256x256) (broadcastTo S256x256 b broadcasts_S1x256_S256x256))
    (subf (broadcastTo S256x256 a broadcasts_S256x1_S256x256) (broadcastTo S256x256 b broadcasts_S1x256_S256x256))

/-- The distance of every donor slot and every acceptor slot. -/
def dist (A : FVec F S256x9 .f32) (B : FVec F S9x256 .f32) : FVec F S256x256 .f32 :=
  sqrt (addf (addf (addf
    (sq (addf (addf (extractStridedSlice S256x1 ![0, 0] A slices_S256x9_o0_0_S256x1)
          (extractStridedSlice S256x1 ![0, 3] A slices_S256x9_o0_3_S256x1))
          (extractStridedSlice S256x1 ![0, 6] A slices_S256x9_o0_6_S256x1))
        (addf (addf (extractStridedSlice S1x256 ![0, 0] B slices_S9x256_o0_0_S1x256)
          (extractStridedSlice S1x256 ![3, 0] B slices_S9x256_o3_0_S1x256))
          (extractStridedSlice S1x256 ![6, 0] B slices_S9x256_o6_0_S1x256)))
    (sq (addf (addf (extractStridedSlice S256x1 ![0, 1] A slices_S256x9_o0_1_S256x1)
          (extractStridedSlice S256x1 ![0, 4] A slices_S256x9_o0_4_S256x1))
          (extractStridedSlice S256x1 ![0, 7] A slices_S256x9_o0_7_S256x1))
        (addf (addf (extractStridedSlice S1x256 ![1, 0] B slices_S9x256_o1_0_S1x256)
          (extractStridedSlice S1x256 ![4, 0] B slices_S9x256_o4_0_S1x256))
          (extractStridedSlice S1x256 ![7, 0] B slices_S9x256_o7_0_S1x256))))
    (sq (addf (addf (extractStridedSlice S256x1 ![0, 2] A slices_S256x9_o0_2_S256x1)
          (extractStridedSlice S256x1 ![0, 5] A slices_S256x9_o0_5_S256x1))
          (extractStridedSlice S256x1 ![0, 8] A slices_S256x9_o0_8_S256x1))
        (addf (addf (extractStridedSlice S1x256 ![2, 0] B slices_S9x256_o2_0_S1x256)
          (extractStridedSlice S1x256 ![5, 0] B slices_S9x256_o5_0_S1x256))
          (extractStridedSlice S1x256 ![8, 0] B slices_S9x256_o8_0_S1x256))))
    (broadcast S256x256 (Scalar.ofBits .f32 0x322BCC77#32)))

/-- The table rows of every donor slot's type, the three parts one under the other. -/
def left (dt : FVec F S256x8 .f32) (pt : FVec F S8x312 .bf16) : FVec F S768x104 .f32 :=
  let M := matmul dot_S256x8_S8x312_S256x312_1_0_0_1_n_n none (truncf .bf16 dt bitsLt_bf16_f32) pt
    (constant S256x312 .f32 0x00000000#32)
  concatenate S768x104 0 [⟨S256x104, extractStridedSlice S256x104 ![0, 0] M slices_S256x312_o0_0_S256x104⟩,
    ⟨S256x104, extractStridedSlice S256x104 ![0, 104] M slices_S256x312_o0_104_S256x104⟩,
    ⟨S256x104, extractStridedSlice S256x104 ![0, 208] M slices_S256x312_o0_208_S256x104⟩]
    concatenates_S256x104_S256x104_S256x104_S768x104_d0

/-- One coefficient of every pair: its three parts, added up. -/
def coef (c : Nat) (h : S768x104.Slices ![0, c] S768x8) (L : FVec F S768x104 .f32) (at' : FVec F S8x256 .f32) :
    FVec F S256x256 .f32 :=
  let M := matmul dot_S768x8_S8x256_S768x256_1_0_0_1_n_n none
    (truncf .bf16 (extractStridedSlice S768x8 ![0, c] L h) bitsLt_bf16_f32) (truncf .bf16 at' bitsLt_bf16_f32)
    (constant S768x256 .f32 0x00000000#32)
  addf (addf (extractStridedSlice S256x256 ![0, 0] M slices_S768x256_o0_0_S256x256)
    (extractStridedSlice S256x256 ![256, 0] M slices_S768x256_o256_0_S256x256))
    (extractStridedSlice S256x256 ![512, 0] M slices_S768x256_o512_0_S256x256)

/-- The polynomial of every pair at its distance. -/
def poly (L : FVec F S768x104 .f32) (at' : FVec F S8x256 .f32) (d : FVec F S256x256 .f32) : FVec F S256x256 .f32 :=
  addf (mulf (addf (mulf (addf (mulf (addf (mulf (addf (mulf (addf (mulf (addf (mulf (addf (mulf (addf (mulf (addf (mulf
    (coef 0 slices_S768x104_o0_0_S768x8 L at') d) (coef 8 slices_S768x104_o0_8_S768x8 L at')) d)
    (coef 16 slices_S768x104_o0_16_S768x8 L at')) d) (coef 24 slices_S768x104_o0_24_S768x8 L at')) d)
    (coef 32 slices_S768x104_o0_32_S768x8 L at')) d) (coef 40 slices_S768x104_o0_40_S768x8 L at')) d)
    (coef 48 slices_S768x104_o0_48_S768x8 L at')) d) (coef 56 slices_S768x104_o0_56_S768x8 L at')) d)
    (coef 64 slices_S768x104_o0_64_S768x8 L at')) d) (coef 72 slices_S768x104_o0_72_S768x8 L at')) d)
    (coef 80 slices_S768x104_o0_80_S768x8 L at')

/-- The least distance at which a pair counts. -/
def dmin (L : FVec F S768x104 .f32) (at' : FVec F S8x256 .f32) : FVec F S256x256 .f32 :=
  addf (broadcast S256x256 (Scalar.ofBits .f32 0x3F000000#32)) (coef 88 slices_S768x104_o0_88_S768x8 L at')

/-- The greatest distance at which a pair counts. -/
def dmax (L : FVec F S768x104 .f32) (at' : FVec F S8x256 .f32) : FVec F S256x256 .f32 :=
  addf (addf (dmin L at') (broadcast S256x256 (Scalar.ofBits .f32 0x40000000#32)))
    (coef 96 slices_S768x104_o0_96_S768x8 L at')

/-- The energy of every pair, from the masks, the tables and the distances. -/
def pairs (dm : IVec S256x1 1) (am : IVec S1x256 1) (L : FVec F S768x104 .f32) (at' : FVec F S8x256 .f32)
    (d : FVec F S256x256 .f32) (gp : FVec F S1x1 .f32) : FVec F S256x256 .f32 :=
  select (andi (andi (andi (broadcastTo S256x256 dm broadcasts_S256x1_S256x256)
      (broadcastTo S256x256 am broadcasts_S1x256_S256x256)) (cmpf .ogt d (dmin L at'))) (cmpf .olt d (dmax L at')))
    (mulf (poly L at' d) (broadcastTo S256x256 gp broadcasts_S1x1_S256x256))
    (broadcast S256x256 (Scalar.ofBits .f32 0x00000000#32))

/-- The distances of one pose. -/
def poseDist (x9 : FVec F S64x288 .bf16) (D : FVec F S256x11 .f32) : FVec F S256x256 .f32 :=
  dist (parts (fptosi 32 (extractStridedSlice S256x1 ![0, 0] D slices_S256x11_o0_0_S256x1)) (rowXyz x9))
    (transpose S9x256 [1, 0] (parts (fptosi 32 (extractStridedSlice S256x1 ![0, 2] D slices_S256x11_o0_2_S256x1)) (rowXyz x9))
      transposes_S256x9_p1_0_S9x256)

/-- The energies of one pose. -/
def energy (x9 : FVec F S64x288 .bf16) (bc : FVec F S64x1 .bf16) (br : FVec F S1x64 .bf16) (rt : FVec F S128x11 .bf16)
    (ct : FVec F S10x128 .bf16) (pt : FVec F S8x312 .bf16) (gp : FVec F S1x1 .f32) : FVec F S256x256 .f32 :=
  pairs (rowMask (rowData bc rt)) (colMask (colData br ct)) (left (rowTy (rowData bc rt)) pt) (colTy (colData br ct))
    (poseDist x9 (rowData bc rt)) gp

/-- The score of one pose, on every lane. -/
def score (e : FVec F S256x256 .f32) : FVec F S1x1x128 .f32 :=
  shapeCast S1x1x128 (broadcast S1x128 (extractAt ![0, 0, 0] (shapeCast S1x1x1 (multiReduction .add [1, 2] S1
    (shapeCast S1x256x256 e shapeCasts_S256x256_S1x256x256) 0x00000000#32 reduces_S1x256x256_S1 (.inl rfl) rfl)
    shapeCasts_S1_S1x1x1) inpos_S1x1x1_p0_0_0)) shapeCasts_S1x128_S1x1x128

/-- The least entry of a square of values. -/
def least (e : FVec F S256x256 .f32) : F .f32 :=
  extractAt ![0, 0, 0] (shapeCast S1x1x1 (multiReduction .minimumf [1, 2] S1
    (shapeCast S1x256x256 e shapeCasts_S256x256_S1x256x256) 0x7F800000#32 reduces_S1x256x256_S1 (.inl rfl) rfl)
    shapeCasts_S1_S1x1x1) inpos_S1x1x1_p0_0_0

/-- The place of the least energy of one pose, on every lane. -/
def place (e : FVec F S256x256 .f32) : IVec S1x1x128 32 :=
  shapeCast S1x1x128 (broadcast S1x128 (Scalar.fptosi (F := F) (φ := .f32) 32 (least (select (cmpf .oeq e (broadcast S256x256 (least e)))
    (sitofp .f32 (addi (muli (iota .tc S256x256 32 [0] iota_S256x256_d0_w32) (broadcast S256x256 256#32))
      (iota .tc S256x256 32 [1] iota_S256x256_d1_w32)))
    (broadcast S256x256 (Scalar.ofBits .f32 0x47800000#32)))))) shapeCasts_S1x128_S1x1x128

section
variable (x0 : Vec F S2x64x288 .bf16) (x1 : Vec F S2x64x1 .bf16) (x2 : Vec F S2x1x64 .bf16) (x3 : Vec F S128x11 .bf16)
  (x4 : Vec F S10x128 .bf16) (x5 : Vec F S8x312 .bf16) (x6 : Vec F S1x5 .f32)

/-- The energies of a block's first pose. -/
def energy0 : FVec F S256x256 .f32 :=
  energy (shapeCast S64x288 (View.ld x0 r0_0 : Vec F S1x64x288 .bf16) shapeCasts_S1x64x288_S64x288)
    (shapeCast S64x1 (View.ld x1 r0_1 : Vec F S1x64x1 .bf16) shapeCasts_S1x64x1_S64x1)
    (shapeCast S1x64 (View.ld x2 r0_2 : Vec F S1x1x64 .bf16) shapeCasts_S1x1x64_S1x64)
    (shapeCast S128x11 (View.ld x3 r0_3 : Vec F S128x11 .bf16) shapeCasts_S128x11_S128x11)
    (shapeCast S10x128 (View.ld x4 r0_4 : Vec F S10x128 .bf16) shapeCasts_S10x128_S10x128)
    (shapeCast S8x312 (View.ld x5 r0_5 : Vec F S8x312 .bf16) shapeCasts_S8x312_S8x312) (View.ld x6 r0_6)

/-- The energies of a block's second pose. -/
def energy1 : FVec F S256x256 .f32 :=
  energy (shapeCast S64x288 (View.ld x0 r0_8 : Vec F S1x64x288 .bf16) shapeCasts_S1x64x288_S64x288)
    (shapeCast S64x1 (View.ld x1 r0_9 : Vec F S1x64x1 .bf16) shapeCasts_S1x64x1_S64x1)
    (shapeCast S1x64 (View.ld x2 r0_10 : Vec F S1x1x64 .bf16) shapeCasts_S1x1x64_S1x64)
    (shapeCast S128x11 (View.ld x3 r0_3 : Vec F S128x11 .bf16) shapeCasts_S128x11_S128x11)
    (shapeCast S10x128 (View.ld x4 r0_4 : Vec F S10x128 .bf16) shapeCasts_S10x128_S10x128)
    (shapeCast S8x312 (View.ld x5 r0_5 : Vec F S8x312 .bf16) shapeCasts_S8x312_S8x312) (View.ld x6 r0_6)

/-- The block of scores: the second pose's row, then the first's. -/
theorem out7_eq : out0_7 x0 x1 x2 x3 x4 x5 x6
    = View.canon [⟨r0_11, score (energy1 x0 x1 x2 x3 x4 x5 x6)⟩, ⟨r0_7, score (energy0 x0 x1 x2 x3 x4 x5 x6)⟩] := rfl

/-- The block of places: the second pose's row, then the first's. -/
theorem out8_eq : out0_8 x0 x1 x2 x3 x4 x5 x6
    = View.canon [⟨r0_11, place (energy1 x0 x1 x2 x3 x4 x5 x6)⟩, ⟨r0_7, place (energy0 x0 x1 x2 x3 x4 x5 x6)⟩] := rfl

end

end Cert.KernelIdeal.Pose

end
-- ==== Proof.Marks.lean ====
/- The kernel's stages over the extended reals, read at an index: the marks and the table rows they pick. -/
module

public import proofs.«01_k».proof.Proof.Stages
public import proofs.«01_k».proof.Proof.Spec

@[expose] public section

set_option maxRecDepth 16384

noncomputable section

namespace Cert.KernelIdeal.Pose

open Idealize.ShloMosaic Idealize.ShloMosaic.TcCoe Idealize.SL.Sem
open Cert.KernelIdeal Cert.KernelIdeal.Gen Cert.Spec

/-- Floor division of one word by another, as the body writes it out. -/
def fdivS (c x : BitVec 32) : BitVec 32 :=
  Scalar.select (IntOp.andi (IntOp.cmpi .ne (IntOp.subi (BitVec.setWidth 32 (IntOp.cmpi .sgt x 0#32))
        (BitVec.setWidth 32 (IntOp.cmpi .slt x 0#32)))
      (Scalar.subi (Scalar.extui (Scalar.cmpi .sgt c 0#32)) (Scalar.extui (Scalar.cmpi .slt c 0#32))))
      (IntOp.cmpi .ne (IntOp.remsi .vector x c) 0#32))
    (IntOp.subi (IntOp.divsi .vector x c) 1#32) (IntOp.divsi .vector x c)

/-- Floor remainder of one word by another, as the body writes it out. -/
def fmodS (c x : BitVec 32) : BitVec 32 :=
  Scalar.select (IntOp.andi (IntOp.xori (IntOp.cmpi .slt (IntOp.remsi .vector x
        (Scalar.select (Scalar.cmpi .eq c 0#32) 1#32 c)) 0#32)
        (Scalar.cmpi .slt (Scalar.select (Scalar.cmpi .eq c 0#32) 1#32 c) 0#32))
      (IntOp.cmpi .ne (IntOp.remsi .vector x (Scalar.select (Scalar.cmpi .eq c 0#32) 1#32 c)) 0#32))
    (IntOp.addi (IntOp.remsi .vector x (Scalar.select (Scalar.cmpi .eq c 0#32) 1#32 c))
      (Scalar.select (Scalar.cmpi .eq c 0#32) 1#32 c))
    (IntOp.remsi .vector x (Scalar.select (Scalar.cmpi .eq c 0#32) 1#32 c))

theorem fdiv_apply {s : Shape} (c : BitVec 32) (v : IVec s 32) (j : s.Idx) : fdiv c v j = fdivS c (v j) := by
  pointwise [fdiv, fdivS]

theorem fmod_apply {s : Shape} (h : s.Broadcasts s) (c : BitVec 32) (v : IVec s 32) (j : s.Idx) :
    fmod h c v j = fmodS c (v j) := rfl

theorem fdivS_four (n : Fin 256) : fdivS 4#32 (BitVec.ofNat 32 n) = BitVec.ofNat 32 (n / 4) := by
  revert n; decide +kernel

theorem fmodS_four (n : Fin 256) : fmodS 4#32 (BitVec.ofNat 32 n) = BitVec.ofNat 32 (n % 4) := by
  revert n; decide +kernel

theorem fmodS_three (n : Fin 288) : fmodS 3#32 (BitVec.ofNat 32 n) = BitVec.ofNat 32 (n % 3) := by
  revert n; decide +kernel

theorem fdivS_ninetysix (n : Fin 288) : fdivS 96#32 (BitVec.ofNat 32 n) = BitVec.ofNat 32 (n / 96) := by
  revert n; decide +kernel

/-- The atom a lane belongs to. -/
theorem atom_lane (n : Fin 288) : fdivS 3#32 (fmodS 96#32 (BitVec.ofNat 32 n)) = BitVec.ofNat 32 (n % 96 / 3) := by
  revert n; decide +kernel

/-- A word as the extended real it denotes. -/
def num (x : BitVec 32) : EReal := ((x.toInt : ℝ) : EReal)

/-- Reading a word's value back as a word gives the word. -/
theorem fptosi_num (x : BitVec 32) : Ideal.fptosi 32 (num x) = x := by
  unfold Ideal.fptosi num
  have h1 := x.toInt_lt
  have h2 := x.le_toInt
  have e : Ideal.toIntClamped (-(2 ^ (32 - 1) : Nat)) ((2 ^ (32 - 1) : Nat) - 1) ((x.toInt : ℝ) : EReal) = x.toInt := by
    show max _ (min _ (if (0 : ℝ) ≤ (x.toInt : ℝ) then ⌊(x.toInt : ℝ)⌋ else ⌈(x.toInt : ℝ)⌉)) = _
    rw [Int.floor_intCast, Int.ceil_intCast, ite_self]
    norm_num at h1 h2 ⊢
    omega
  rw [e, BitVec.ofInt_toInt]

theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- The value of a mark on the equality of two words. -/
theorem mark_eq (a b : BitVec 32) : (FloatOps.sitofp (F := Ideal) FTy.f32 (BitVec.setWidth 32 (IntOp.cmpi .eq a b)) : EReal)
    = if a = b then 1 else 0 := by
  by_cases h : a = b
  · subst h; rw [if_pos rfl]
    show (((BitVec.setWidth 32 (IntOp.cmpi .eq a a)).toInt : ℝ) : EReal) = 1
    simp [IntOp.cmpi]
  · rw [if_neg h]
    show (((BitVec.setWidth 32 (IntOp.cmpi .eq a b)).toInt : ℝ) : EReal) = 0
    simp [IntOp.cmpi, beq_eq_false_iff_ne.2 h]

/-- The value of a mark on two equalities of words. -/
theorem mark_and (a b c d : BitVec 32) :
    (FloatOps.sitofp (F := Ideal) FTy.f32 (BitVec.setWidth 32 (IntOp.andi (IntOp.cmpi .eq a b) (IntOp.cmpi .eq c d))) : EReal)
    = if a = b ∧ c = d then 1 else 0 := by
  have e : IntOp.andi (IntOp.cmpi .eq a b) (IntOp.cmpi .eq c d) = BitVec.ofBool (decide (a = b ∧ c = d)) := by
    by_cases h : a = b <;> by_cases h' : c = d <;>
      simp [IntOp.cmpi, IntOp.andi, h, h', ← Bool.beq_eq_decide_eq, beq_eq_false_iff_ne.2]
  show (((BitVec.setWidth 32 (IntOp.andi (IntOp.cmpi .eq a b) (IntOp.cmpi .eq c d))).toInt : ℝ) : EReal) = _
  rw [e]
  by_cases h : a = b ∧ c = d
  · rw [if_pos h, decide_eq_true h]; simp
  · rw [if_neg h, decide_eq_false h]; simp

/-- A sum over marks that hold at one place is the value at that place. -/
theorem sum_mark {n : ℕ} (p : Fin n → Prop) [DecidablePred p] (k : Fin n) (h : ∀ x, p x ↔ x = k) (f : Fin n → EReal) :
    ∑ x, (if p x then 1 else 0) * f x = f k := by
  rw [Finset.sum_eq_single k]
  · rw [if_pos ((h k).2 rfl), one_mul]
  · intro x _ hx; rw [if_neg fun hp => hx ((h x).1 hp), zero_mul]
  · intro hk; exact absurd (Finset.mem_univ _) hk

/-- The same with the marks on the right. -/
theorem sum_mark' {n : ℕ} (p : Fin n → Prop) [DecidablePred p] (k : Fin n) (h : ∀ x, p x ↔ x = k) (f : Fin n → EReal) :
    ∑ x, f x * (if p x then 1 else 0) = f k := by
  simp_rw [mul_comm (f _)]; exact sum_mark p k h f

/-- The row of a block type's slot in the slot tables. -/
def rowOf (t : Fin 32) (s : Fin 4) : Fin 128 := ⟨4 * t + s, by omega⟩

theorem rowBlock_apply (i : Fin 256) (b : Fin 64) : rowBlock (F := Ideal) (ix2 i b) = if b = blk i then 1 else 0 := by
  pointwise [rowBlock, fdiv_apply, fdivS_four]
  rw [mark_eq]
  refine if_congr ?_ rfl rfl
  rw [ofNat_inj (by omega) (by omega), Fin.ext_iff]
  exact eq_comm

theorem colBlock_apply (i : Fin 256) (b : Fin 64) : colBlock (F := Ideal) (ix2 b i) = if b = blk i then 1 else 0 := by
  pointwise [colBlock, fdiv_apply, fdivS_four]
  rw [mark_eq]
  refine if_congr ?_ rfl rfl
  rw [ofNat_inj (by omega) (by omega), Fin.ext_iff]
  exact eq_comm

section
variable (P : Pose) (x9 : FVec Ideal S64x288 .bf16) (bc : FVec Ideal S64x1 .bf16) (br : FVec Ideal S1x64 .bf16)
  (rt : FVec Ideal S128x11 .bf16) (ct : FVec Ideal S10x128 .bf16) (pt : FVec Ideal S8x312 .bf16) (gp : FVec Ideal S1x1 .f32)

/-- The body's inputs for one pose hold the pose's data. -/
structure Reads : Prop where
  bc : ∀ b, bc (ix2 b 0) = num (BitVec.ofNat 32 (P.ty b))
  br : ∀ b, br (ix2 0 b) = num (BitVec.ofNat 32 (P.ty b))
  dl : ∀ t s, rt (ix2 (rowOf t s) 0) = num (BitVec.ofNat 32 (P.dl t s))
  nd : ∀ t s, rt (ix2 (rowOf t s) 1) = num (P.nd t)
  al : ∀ t s, rt (ix2 (rowOf t s) 2) = num (BitVec.ofNat 32 (P.al t s))
  dty : ∀ t s (a : Fin 8), rt (ix2 (rowOf t s) ⟨3 + a, by omega⟩) = if a = P.dty t s then 1 else 0
  na : ∀ t s, ct (ix2 1 (rowOf t s)) = num (P.na t)
  aty : ∀ t s (a : Fin 8), ct (ix2 ⟨2 + a, by omega⟩ (rowOf t s)) = if a = P.aty t s then 1 else 0
  tab : ∀ (a : Fin 8) (k : Fin 13) (q : Fin 8), pt (ix2 a ⟨8 * k + q, by omega⟩) = P.tab k a q
  tmid : ∀ (a : Fin 8) (k : Fin 13) (q : Fin 8), pt (ix2 a ⟨104 + (8 * k + q), by omega⟩) = P.tab k a q - P.tab k a q
  tlow : ∀ (a : Fin 8) (k : Fin 13) (q : Fin 8), pt (ix2 a ⟨208 + (8 * k + q), by omega⟩)
    = P.tab k a q - P.tab k a q - (P.tab k a q - P.tab k a q)
  fin : ∀ (a : Fin 8) (k : Fin 13) (q : Fin 8), (k : ℕ) ≠ 11 → P.tab k a q - P.tab k a q = 0
  xyz : ∀ b (l : Fin 32) (c : Fin 3), x9 (ix2 b ⟨3 * l + c, by omega⟩) = P.xyz b l c
  mid : ∀ b (l : Fin 32) (c : Fin 3), x9 (ix2 b ⟨96 + (3 * l + c), by omega⟩) = P.xyz b l c - P.xyz b l c
  low : ∀ b (l : Fin 32) (c : Fin 3), x9 (ix2 b ⟨192 + (3 * l + c), by omega⟩)
    = P.xyz b l c - P.xyz b l c - (P.xyz b l c - P.xyz b l c)
  gp : gp (ix2 0 0) = P.gp

variable {P x9 bc br rt ct pt gp}

theorem Reads.rowType_at (H : Reads P x9 bc br rt ct pt gp) (i : Fin 256) :
    rowType (F := Ideal) bc (ix2 i 0) = BitVec.ofNat 32 (P.tyOf i) := by
  pointwise [rowType, rowBlock_apply]
  rw [sum_mark _ (blk i) (fun _ => Iff.rfl), H.bc]
  exact fptosi_num _

theorem Reads.colType_at (H : Reads P x9 bc br rt ct pt gp) (i : Fin 256) :
    colType (F := Ideal) br (ix2 0 i) = BitVec.ofNat 32 (P.tyOf i) := by
  pointwise [colType, colBlock_apply]
  rw [sum_mark' _ (blk i) (fun _ => Iff.rfl), H.br]
  exact fptosi_num _

theorem row_iff (t : Fin 32) (i : Fin 256) (r : Fin 128) :
    ((t : ℕ) = r / 4 ∧ (i : ℕ) % 4 = r % 4) ↔ r = rowOf t (slot i) := by
  rw [Fin.ext_iff]; simp only [rowOf, slot]; omega

theorem fdivS_four' (n : Fin 128) : fdivS 4#32 (BitVec.ofNat 32 n) = BitVec.ofNat 32 (n / 4) :=
  fdivS_four ⟨n, by omega⟩

theorem fmodS_four' (n : Fin 128) : fmodS 4#32 (BitVec.ofNat 32 n) = BitVec.ofNat 32 (n % 4) :=
  fmodS_four ⟨n, by omega⟩

theorem Reads.rowMark_at (H : Reads P x9 bc br rt ct pt gp) (i : Fin 256) (r : Fin 128) :
    rowMark (F := Ideal) bc (ix2 i r) = if r = rowOf (P.tyOf i) (slot i) then 1 else 0 := by
  pointwise [rowMark, fdiv_apply, fmod_apply]
  rw [mark_and, H.rowType_at, fdivS_four', fmodS_four, fmodS_four']
  refine if_congr ?_ rfl rfl
  rw [ofNat_inj (by omega) (by omega), ofNat_inj (by omega) (by omega), row_iff]

theorem Reads.colMark_at (H : Reads P x9 bc br rt ct pt gp) (i : Fin 256) (r : Fin 128) :
    colMark (F := Ideal) br (ix2 r i) = if r = rowOf (P.tyOf i) (slot i) then 1 else 0 := by
  pointwise [colMark, fdiv_apply, fmod_apply]
  rw [mark_and, H.colType_at, fdivS_four', fmodS_four, fmodS_four']
  refine if_congr ?_ rfl rfl
  rw [ofNat_inj (by omega) (by omega), ofNat_inj (by omega) (by omega), row_iff]

theorem Reads.rowData_at (H : Reads P x9 bc br rt ct pt gp) (i : Fin 256) (c : Fin 11) :
    rowData (F := Ideal) bc rt (ix2 i c) = rt (ix2 (rowOf (P.tyOf i) (slot i)) c) := by
  pointwise [rowData, H.rowMark_at]
  rw [sum_mark _ _ (fun _ => Iff.rfl)]

theorem Reads.colData_at (H : Reads P x9 bc br rt ct pt gp) (i : Fin 256) (c : Fin 10) :
    colData (F := Ideal) br ct (ix2 c i) = ct (ix2 c (rowOf (P.tyOf i) (slot i))) := by
  pointwise [colData, H.colMark_at]
  rw [sum_mark' _ _ (fun _ => Iff.rfl)]

theorem rowXyz_apply (i : Fin 256) (c : Fin 288) : rowXyz (F := Ideal) x9 (ix2 i c) = x9 (ix2 (blk i) c) := by
  pointwise [rowXyz, rowBlock_apply]
  rw [sum_mark _ _ (fun _ => Iff.rfl)]

theorem pick_apply (l : IVec S256x1 32) (M : FVec Ideal S256x288 .f32) (i : Fin 256) (r : Fin 288) (a : Fin 32)
    (ha : l (ix2 i 0) = BitVec.ofNat 32 a) :
    pick (F := Ideal) l M (ix2 i r) = if (r : ℕ) % 96 / 3 = a then M (ix2 i r) else 0 := by
  pointwise [pick, fdiv_apply, fmod_apply]
  rw [atom_lane, ha]
  by_cases h : (r : ℕ) % 96 / 3 = a
  · rw [if_pos h, h]; simp [IntOp.cmpi, Scalar.select]
  · rw [if_neg h]
    have : ¬ BitVec.ofNat 32 ((r : ℕ) % 96 / 3) = BitVec.ofNat 32 a := by
      rw [ofNat_inj (by omega) (by omega)]; exact h
    simp [IntOp.cmpi, Scalar.select, beq_eq_false_iff_ne.2 this]

theorem laneMark_apply (i : Fin 288) (j : Fin 9) :
    laneMark (F := Ideal) (ix2 i j) = if (j : ℕ) = (i : ℕ) / 96 * 3 + (i : ℕ) % 3 then 1 else 0 := by
  pointwise [laneMark, fdiv_apply, fmod_apply]
  rw [fmodS_three, fdivS_ninetysix, mark_eq]
  refine if_congr ?_ rfl rfl
  rw [show IntOp.addi (IntOp.muli (BitVec.ofNat 32 (↑i / 96)) 3#32) (BitVec.ofNat 32 (↑i % 3))
    = BitVec.ofNat 32 ((i : ℕ) / 96 * 3 + (i : ℕ) % 3) from by
      show BitVec.ofNat 32 (↑i / 96) * BitVec.ofNat 32 3 + BitVec.ofNat 32 (↑i % 3) = _
      rw [← BitVec.ofNat_mul, ← BitVec.ofNat_add], ofNat_inj (by omega) (by omega)]

/-- The lane of a part, an atom and an axis. -/
def lane (a : Fin 32) (q : Fin 9) : Fin 288 := ⟨(q : ℕ) / 3 * 96 + 3 * a + q % 3, by omega⟩

/-- A part of the picked atom's coordinate along an axis. -/
theorem parts_apply (l : IVec S256x1 32) (M : FVec Ideal S256x288 .f32) (i : Fin 256) (q : Fin 9) (a : Fin 32)
    (ha : l (ix2 i 0) = BitVec.ofNat 32 a) : parts (F := Ideal) l M (ix2 i q) = M (ix2 i (lane a q)) := by
  pointwise [parts, laneMark_apply]
  rw [Finset.sum_eq_single (lane a q)]
  · rw [pick_apply l M i _ a ha, if_pos (by simp only [lane]; omega), if_pos (by simp only [lane]; omega), mul_one]
  · intro x _ hx
    rw [pick_apply l M i _ a ha]
    by_cases h : (x : ℕ) % 96 / 3 = a
    · rw [if_neg (c := (q : ℕ) = _), mul_zero]
      intro h'; apply hx; rw [Fin.ext_iff]; simp only [lane]; omega
    · rw [if_neg h, zero_mul]
  · intro hk; exact absurd (Finset.mem_univ _) hk

end

end Cert.KernelIdeal.Pose
end
-- ==== Proof.Energy.lean ====
/- The kernel's energies of one pose, its score and its place, are the pose's. -/
module

public import proofs.«01_k».proof.Proof.Marks

@[expose] public section

set_option maxRecDepth 16384

noncomputable section

namespace Cert.KernelIdeal.Pose

open Idealize.ShloMosaic Idealize.ShloMosaic.TcCoe Idealize.SL.Sem
open Cert.KernelIdeal Cert.KernelIdeal.Gen Cert.Spec

variable {P : Spec.Pose} {x9 : FVec Ideal S64x288 .bf16} {bc : FVec Ideal S64x1 .bf16} {br : FVec Ideal S1x64 .bf16}
  {rt : FVec Ideal S128x11 .bf16} {ct : FVec Ideal S10x128 .bf16} {pt : FVec Ideal S8x312 .bf16} {gp : FVec Ideal S1x1 .f32}

theorem Reads.rowMask_at (H : Reads P x9 bc br rt ct pt gp) (i : Fin 256) :
    rowMask (F := Ideal) (rowData bc rt) (ix2 i 0)
      = BitVec.ofBool ((BitVec.ofNat 32 (slot i : ℕ)).slt (P.nd (P.tyOf i))) := by
  pointwise [rowMask, fmod_apply]
  rw [H.rowData_at, H.nd, fmodS_four]
  exact congrArg (fun w => BitVec.ofBool ((BitVec.ofNat 32 (i % 4)).slt w)) (fptosi_num _)

theorem Reads.colMask_at (H : Reads P x9 bc br rt ct pt gp) (i : Fin 256) :
    colMask (F := Ideal) (colData br ct) (ix2 0 i)
      = BitVec.ofBool ((BitVec.ofNat 32 (slot i : ℕ)).slt (P.na (P.tyOf i))) := by
  pointwise [colMask, fmod_apply]
  rw [H.colData_at, H.na, fmodS_four]
  exact congrArg (fun w => BitVec.ofBool ((BitVec.ofNat 32 (i % 4)).slt w)) (fptosi_num _)

theorem Reads.part_hi (H : Reads P x9 bc br rt ct pt gp) (b : Fin 64) (a : Fin 32) (c : Fin 3) :
    x9 (ix2 b (lane a ⟨c, by omega⟩)) = P.xyz b a c := by
  rw [← H.xyz]; congr 2; rw [Fin.ext_iff]; simp only [lane]; omega

theorem Reads.part_mid (H : Reads P x9 bc br rt ct pt gp) (b : Fin 64) (a : Fin 32) (c : Fin 3) :
    x9 (ix2 b (lane a ⟨3 + c, by omega⟩)) = P.xyz b a c - P.xyz b a c := by
  rw [← H.mid]; congr 2; rw [Fin.ext_iff]; simp only [lane]; omega

theorem Reads.part_low (H : Reads P x9 bc br rt ct pt gp) (b : Fin 64) (a : Fin 32) (c : Fin 3) :
    x9 (ix2 b (lane a ⟨6 + c, by omega⟩)) = P.xyz b a c - P.xyz b a c - (P.xyz b a c - P.xyz b a c) := by
  rw [← H.low]; congr 2; rw [Fin.ext_iff]; simp only [lane]; omega

/-- The three parts of a coordinate, added up. -/
theorem Reads.part_sum (H : Reads P x9 bc br rt ct pt gp) (b : Fin 64) (a : Fin 32) (c : Fin 3) :
    (x9 (ix2 b (lane a ⟨c, by omega⟩)) + x9 (ix2 b (lane a ⟨3 + c, by omega⟩))) + x9 (ix2 b (lane a ⟨6 + c, by omega⟩))
      = whole (P.xyz b a c) := by
  rw [H.part_hi, H.part_mid, H.part_low]; rfl

/-- A donor's part along an axis. -/
theorem Reads.don (H : Reads P x9 bc br rt ct pt gp) (i : Fin 256) (q : Fin 9) :
    parts (F := Ideal) (fptosi 32 (extractStridedSlice S256x1 ![0, 0] (rowData bc rt) slices_S256x11_o0_0_S256x1)) (rowXyz x9)
      (ix2 i q) = x9 (ix2 (blk i) (lane (P.dl (P.tyOf i) (slot i)) q)) := by
  rw [parts_apply _ _ i q (P.dl (P.tyOf i) (slot i)), rowXyz_apply]
  pointwise
  rw [H.rowData_at, H.dl]; exact fptosi_num _

/-- An acceptor's part along an axis. -/
theorem Reads.acc (H : Reads P x9 bc br rt ct pt gp) (i : Fin 256) (q : Fin 9) :
    parts (F := Ideal) (fptosi 32 (extractStridedSlice S256x1 ![0, 2] (rowData bc rt) slices_S256x11_o0_2_S256x1)) (rowXyz x9)
      (ix2 i q) = x9 (ix2 (blk i) (lane (P.al (P.tyOf i) (slot i)) q)) := by
  rw [parts_apply _ _ i q (P.al (P.tyOf i) (slot i)), rowXyz_apply]
  pointwise
  rw [H.rowData_at, H.al]; exact fptosi_num _

theorem Reads.dist_at (H : Reads P x9 bc br rt ct pt gp) (i j : Fin 256) :
    poseDist (F := Ideal) x9 (rowData bc rt) (ix2 i j) = P.dist i j := by
  unfold poseDist
  pointwise [Pose.dist, sq, H.don, H.acc]
  have e0 : ∀ b a, (x9 (ix2 b (lane a 0)) + x9 (ix2 b (lane a 3))) + x9 (ix2 b (lane a 6)) = whole (P.xyz b a 0) :=
    fun b a => H.part_sum b a 0
  have e1 : ∀ b a, (x9 (ix2 b (lane a 1)) + x9 (ix2 b (lane a 4))) + x9 (ix2 b (lane a 7)) = whole (P.xyz b a 1) :=
    fun b a => H.part_sum b a 1
  have e2 : ∀ b a, (x9 (ix2 b (lane a 2)) + x9 (ix2 b (lane a 5))) + x9 (ix2 b (lane a 8)) = whole (P.xyz b a 2) :=
    fun b a => H.part_sum b a 2
  simp only [e0, e1, e2, whole_sq]
  rfl

/-- The three parts of a coefficient's table entry, added up, at the pair's types. -/
theorem Reads.coef_whole (H : Reads P x9 bc br rt ct pt gp) (k : Fin 13) (c : ℕ) (hc : c = 8 * (k : ℕ))
    (h : S768x104.Slices ![0, c] S768x8) (i j : Fin 256) :
    coef (F := Ideal) c h (left (rowTy (rowData bc rt)) pt) (colTy (colData br ct)) (ix2 i j) = whole (P.coef k i j) := by
  subst hc
  pointwise [coef, left, rowTy, colTy, H.rowData_at, H.colData_at]
  have e : (⟨512 + (i : ℕ) - 256 - 256, by omega⟩ : Fin 256) = i := Fin.ext (by simp only; omega)
  simp only [H.dty, H.aty, dif_neg (show ¬ 512 + (i : ℕ) < 256 by omega),
    dif_neg (show ¬ 512 + (i : ℕ) - 256 < 256 by omega), e]
  simp only [sum_mark' _ (P.aty (P.tyOf j) (slot j)) (fun _ => Iff.rfl), sum_mark _ (P.dty (P.tyOf i) (slot i)) (fun _ => Iff.rfl)]
  have e0 : ∀ a (q : Fin 8) (u : Fin 312), (u : ℕ) = 8 * k + q → pt (ix2 a u) = P.tab k a q := fun a q u hu =>
    (congrArg (fun u => pt (ix2 a u)) (Fin.ext hu)).trans (H.tab a k q)
  have e1 : ∀ a (q : Fin 8) (u : Fin 312), (u : ℕ) = 104 + (8 * k + q) → pt (ix2 a u) = P.tab k a q - P.tab k a q :=
    fun a q u hu => (congrArg (fun u => pt (ix2 a u)) (Fin.ext hu)).trans (H.tmid a k q)
  have e2 : ∀ a (q : Fin 8) (u : Fin 312), (u : ℕ) = 208 + (8 * k + q) → pt (ix2 a u)
      = P.tab k a q - P.tab k a q - (P.tab k a q - P.tab k a q) :=
    fun a q u hu => (congrArg (fun u => pt (ix2 a u)) (Fin.ext hu)).trans (H.tlow a k q)
  rw [e0 _ (P.aty (P.tyOf j) (slot j)) _ (by simp only), e1 _ (P.aty (P.tyOf j) (slot j)) _ (by simp only),
    e2 _ (P.aty (P.tyOf j) (slot j)) _ (by simp only)]
  rfl

/-- The same, of a coefficient that is finite. -/
theorem Reads.coef_at (H : Reads P x9 bc br rt ct pt gp) (k : Fin 13) (hk : (k : ℕ) ≠ 11) (c : ℕ) (hc : c = 8 * (k : ℕ))
    (h : S768x104.Slices ![0, c] S768x8) (i j : Fin 256) :
    coef (F := Ideal) c h (left (rowTy (rowData bc rt)) pt) (colTy (colData br ct)) (ix2 i j) = P.coef k i j :=
  (H.coef_whole k c hc h i j).trans (whole_of_sub (H.fin _ k _ hk))

/-- A choice on four conditions, as one. -/
theorem select_four (a b : Bool) (p q : Prop) [Decidable p] [Decidable q] (x y : EReal) :
    Scalar.select (IntOp.andi (IntOp.andi (IntOp.andi (BitVec.ofBool a) (BitVec.ofBool b)) (BitVec.ofBool (decide p)))
      (BitVec.ofBool (decide q))) x y = if (((a = true ∧ b = true) ∧ p) ∧ q) then x else y := by
  by_cases hp : p <;> by_cases hq : q <;> cases a <;> cases b <;> simp [Scalar.select, IntOp.andi, hp, hq]

/-- One half is finite. -/
theorem half_finite : Ideal.ofBits .f32 0x3F000000#32 ≠ ⊥ ∧ Ideal.ofBits .f32 0x3F000000#32 ≠ ⊤ := by
  constructor <;> simp [Ideal.ofBits, Ideal.ieee, ← EReal.coe_mul]

/-- The body's energy of a pair is the pose's. -/
theorem Reads.energy_at (H : Reads P x9 bc br rt ct pt gp) (i j : Fin 256) :
    energy (F := Ideal) x9 bc br rt ct pt gp (ix2 i j) = P.energy i j := by
  unfold energy
  pointwise [pairs, H.dist_at, H.rowMask_at, H.colMask_at, dmin, dmax, poly, H.gp,
    H.coef_at 0 (by decide) 0 rfl, H.coef_at 1 (by decide) 8 rfl,
    H.coef_at 2 (by decide) 16 rfl, H.coef_at 3 (by decide) 24 rfl,
    H.coef_at 4 (by decide) 32 rfl, H.coef_at 5 (by decide) 40 rfl,
    H.coef_at 6 (by decide) 48 rfl, H.coef_at 7 (by decide) 56 rfl,
    H.coef_at 8 (by decide) 64 rfl, H.coef_at 9 (by decide) 72 rfl,
    H.coef_at 10 (by decide) 80 rfl, H.coef_whole 11 88 rfl,
    H.coef_at 12 (by decide) 96 rfl]
  rw [select_four]
  unfold Spec.Pose.energy
  classical
  refine if_congr ?_ rfl rfl
  exact (and_assoc.trans (and_congr Iff.rfl (whole_between _ _ _ _ _ half_finite))).trans and_assoc.symm

/-- Every lane of the score block holds the sum of the energies. -/
theorem score_apply (e : FVec Ideal S256x256 .f32) (k : Fin 128) :
    score (F := Ideal) e (ix3 0 0 k) = ∑ i : Fin 256, ∑ j : Fin 256, e (ix2 i j) := by
  pointwise [score]

/-- The place, in row order, of a row and a column. -/
theorem place_word (i j : Fin 256) :
    IntOp.addi (IntOp.muli (BitVec.ofNat 32 i) 256#32) (BitVec.ofNat 32 j) = BitVec.ofNat 32 (i * 256 + j) := by
  show BitVec.ofNat 32 i * BitVec.ofNat 32 256 + BitVec.ofNat 32 j = _
  rw [← BitVec.ofNat_mul, ← BitVec.ofNat_add]

theorem num_ofNat {n : ℕ} (h : n < 2 ^ 31) : num (BitVec.ofNat 32 n) = ((n : ℝ) : EReal) := by
  unfold num
  have : (BitVec.ofNat 32 n).toInt = (n : ℤ) := by
    rw [BitVec.toInt_eq_toNat_of_lt (by rw [BitVec.toNat_ofNat]; omega), BitVec.toNat_ofNat, Nat.mod_eq_of_lt (by omega)]
  rw [this]
  norm_cast

/-- Every lane of the place block holds the first place of the least entry. -/
theorem place_apply (e : FVec Ideal S256x256 .f32) (k : Fin 128) (f : Fin 65536 → EReal)
    (hf : ∀ i j : Fin 256, e (ix2 i j) = f ⟨i * 256 + j, by omega⟩) (n : Fin 65536) (hn : FirstMin f n) :
    place (F := Ideal) e (ix3 0 0 k) = BitVec.ofNat 32 n := by
  have htop : Ideal.ofBits .f32 0x7F800000#32 = ⊤ := by simp [Ideal.ofBits, Ideal.ieee]
  have hbig : Ideal.ofBits .f32 0x47800000#32 = ((65536 : ℝ) : EReal) := by
    simp [Ideal.ofBits, Ideal.ieee, -EReal.coe_mul]; norm_num
  pointwise [place, least]
  rw [htop]
  have hn0 : (⟨(n : ℕ) / 256 * 256 + (n : ℕ) % 256, by omega⟩ : Fin 65536) = n := Fin.ext (by simp only; omega)
  have hm : Finset.fold min ⊤ (fun x : Fin 256 × Fin 256 => e (ix2 x.1 x.2)) Finset.univ = f n := by
    rw [fold_min_eq _ _ (⟨n / 256, by omega⟩, ⟨n % 256, by omega⟩) (Finset.mem_univ _)]
    · rw [hf, hn0]
    · intro x _
      simp only [hf, hn0]; exact hn.1 _
  have hmin := fold_min_eq (Finset.univ : Finset (Fin 256 × Fin 256)) (fun x =>
      if e (ix2 x.1 x.2) = f n then num (BitVec.ofNat 32 (x.1 * 256 + x.2)) else ((65536 : ℝ) : EReal))
    (⟨n / 256, by omega⟩, ⟨n % 256, by omega⟩) (Finset.mem_univ _) (by
      intro x _
      simp only [hf, hn0, if_true]
      rw [num_ofNat (by omega)]
      have hx := x.1.2
      have hx' := x.2.2
      split_ifs with h
      · rw [num_ofNat (by omega), EReal.coe_le_coe_iff, Nat.cast_le]
        by_contra hlt
        have := hn.2 ⟨x.1 * 256 + x.2, by omega⟩ (by rw [Fin.lt_def]; simp only; omega)
        exact absurd h (ne_of_gt this)
      · rw [EReal.coe_le_coe_iff]
        have : ((n : ℕ) / 256 * 256 + (n : ℕ) % 256 : ℕ) ≤ 65536 := by omega
        exact_mod_cast this)
  simp only [hf, hn0, if_true] at hmin
  have e2 : ∀ x : Fin 256 × Fin 256, (FloatOps.sitofp (F := Ideal) FTy.f32
      (IntOp.addi (IntOp.muli (BitVec.ofNat 32 ↑x.1) 256#32) (BitVec.ofNat 32 ↑x.2)) : EReal)
      = num (BitVec.ofNat 32 (x.1 * 256 + x.2)) := fun x => congrArg num (place_word x.1 x.2)
  rw [hm]
  simp only [e2, hbig, hf]
  refine (congrArg (Ideal.fptosi 32) hmin).trans ?_
  rw [fptosi_num]
  congr 1
  omega

end Cert.KernelIdeal.Pose
end
-- ==== Proof.Inputs.lean ====
/- What the kernel's host operations hand to the region, read at an index. -/
module

public import proofs.«01_k».proof.Proof.Energy
public import Idealize.ShloMosaic.Lib.Claim
public import Idealize.ShloMosaic.Lib.Pipeline.ValueKit
public import Idealize.ShloMosaic.Lib.StableHlo.ReadAt

@[expose] public section

set_option maxRecDepth 16384

noncomputable section

namespace Cert.KernelIdeal.Inputs

open Idealize.ShloMosaic Idealize.ShloMosaic.TcCoe Idealize.SL.Sem
open Cert.KernelIdeal Cert.KernelIdeal.Gen

variable (m : (ℓ : Loc nD τ sig) → Buf (Elt Ideal) ℓ) (c : Dev nD)

open Cert.Spec Cert.KernelIdeal.Pose

/-- The data of a pose, out of the program's arguments. -/
abbrev pose (p : Fin 16) : Spec.Pose :=
  poseOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) p

/-- The program's arguments are well formed. -/
abbrev GoodArgs : Prop :=
  Good (m ((c : Thread nD τ).loc main_arg1))
    (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

variable {m c}

theorem mark_word (a b : BitVec 32) : (FloatOps.uitofp (F := Ideal) FTy.f32 (IntOp.cmpi .eq a b) : EReal)
    = if a = b then 1 else 0 := by
  show (((IntOp.cmpi .eq a b).toNat : ℝ) : EReal) = _
  by_cases h : a = b
  · simp [IntOp.cmpi, h]
  · simp [IntOp.cmpi, h, beq_eq_false_iff_ne.2 h]

theorem v8_hi (p : Fin 16) (b : Fin 64) (l : Fin 32) (k : Fin 3) :
    V m c main_v8 (ix3 p b ⟨3 * l + k, by omega⟩) = (pose m c p).xyz b l k := by
  unfold V V0
  after_reads_at
  rw [dif_pos (by omega)]
  after_reads_at
  exact congrArg₂ (fun u v => m (c, Proc.tc.devRef main_arg0) (ix3 p u v)) (Fin.ext (by simp only; omega))
    (Fin.ext (by simp only; omega))

theorem v8_mid (p : Fin 16) (b : Fin 64) (l : Fin 32) (k : Fin 3) :
    V m c main_v8 (ix3 p b ⟨96 + (3 * l + k), by omega⟩) = (pose m c p).xyz b l k - (pose m c p).xyz b l k := by
  have e : ∀ u v, u = (⟨(b : ℕ) * 32 + l, by omega⟩ : Fin 2048) → v = k → m (c, Proc.tc.devRef main_arg0) (ix3 p u v)
      = (pose m c p).xyz b l k := fun u v hu hv => congrArg₂ (fun u v => m (c, Proc.tc.devRef main_arg0) (ix3 p u v)) hu hv
  unfold V V0
  after_reads_at
  rw [dif_pos (show 3 * (l : ℕ) + k < 96 by omega)]
  after_reads_at
  rw [e _ _ (Fin.ext (by simp only; omega)) (Fin.ext (by simp only; omega))]

theorem v8_low (p : Fin 16) (b : Fin 64) (l : Fin 32) (k : Fin 3) :
    V m c main_v8 (ix3 p b ⟨192 + (3 * l + k), by omega⟩)
      = (pose m c p).xyz b l k - (pose m c p).xyz b l k - ((pose m c p).xyz b l k - (pose m c p).xyz b l k) := by
  have e : ∀ u v, u = (⟨(b : ℕ) * 32 + l, by omega⟩ : Fin 2048) → v = k → m (c, Proc.tc.devRef main_arg0) (ix3 p u v)
      = (pose m c p).xyz b l k := fun u v hu hv => congrArg₂ (fun u v => m (c, Proc.tc.devRef main_arg0) (ix3 p u v)) hu hv
  unfold V V0
  after_reads_at
  rw [dif_neg (by omega), dif_neg (by omega)]
  after_reads_at
  rw [e _ _ (Fin.ext (by simp only; omega)) (Fin.ext (by simp only; omega))]

theorem v10_at (H : GoodArgs m c) (p : Fin 16) (b : Fin 64) :
    V m c main_v10 (ix3 p b 0) = num (BitVec.ofNat 32 ((pose m c p).ty b)) := by
  unfold V V0
  after_reads_at
  exact congrArg num (word_ofNat _ (H.B p b)).symm

theorem v11_at (H : GoodArgs m c) (p : Fin 16) (b : Fin 64) :
    V m c main_v11 (ix3 p 0 b) = num (BitVec.ofNat 32 ((pose m c p).ty b)) := by
  unfold V V0
  after_reads_at
  exact congrArg num (word_ofNat _ (H.B p b)).symm

theorem rowOf_div (t : Fin 32) (s : Fin 4) (h : (rowOf t s : ℕ) / 4 < 32) : (⟨(rowOf t s : ℕ) / 4, h⟩ : Fin 32) = t :=
  Fin.ext (by simp only [rowOf]; omega)

theorem rowOf_mod (t : Fin 32) (s : Fin 4) (h : (rowOf t s : ℕ) % 4 < 4) : (⟨(rowOf t s : ℕ) % 4, h⟩ : Fin 4) = s :=
  Fin.ext (by simp only [rowOf]; omega)

theorem v23_dl (H : GoodArgs m c) (p : Fin 16) (t : Fin 32) (s : Fin 4) :
    V m c main_v23 (ix2 (rowOf t s) 0) = num (BitVec.ofNat 32 ((pose m c p).dl t s)) := by
  unfold V V0
  after_reads_at
  after_reads_at
  rw [rowOf_div, rowOf_mod]
  exact congrArg num (word_ofNat _ (H.DL t s)).symm

theorem v23_nd (p : Fin 16) (t : Fin 32) (s : Fin 4) :
    V m c main_v23 (ix2 (rowOf t s) 1) = num ((pose m c p).nd t) := by
  unfold V V0
  after_reads_at
  after_reads_at
  rw [rowOf_div]
  rfl

theorem v23_al (H : GoodArgs m c) (p : Fin 16) (t : Fin 32) (s : Fin 4) :
    V m c main_v23 (ix2 (rowOf t s) 2) = num (BitVec.ofNat 32 ((pose m c p).al t s)) := by
  unfold V V0
  after_reads_at
  after_reads_at
  rw [rowOf_div, rowOf_mod]
  exact congrArg num (word_ofNat _ (H.AL t s)).symm

/-- A mark of a type: whether a word in range is the word of a number. -/
theorem ty_mark (w : BitVec 32) (h : w.toNat < 8) (a : Fin 8) (n : ℕ) (hn : n = a) :
    (if w = BitVec.ofNat 32 n then (1 : EReal) else 0) = if a = Fin.ofNat 8 w.toNat then 1 else 0 := by
  refine if_congr ?_ rfl rfl
  rw [hn, ← word_ofNat w h, ofNat_inj (by omega) (by omega), word_ofNat w h, Fin.ext_iff]
  exact eq_comm

theorem v23_dty (H : GoodArgs m c) (p : Fin 16) (t : Fin 32) (s : Fin 4) (a : Fin 8) :
    V m c main_v23 (ix2 (rowOf t s) ⟨3 + a, by omega⟩) = (if a = (pose m c p).dty t s then 1 else 0 : EReal) := by
  unfold V V0
  after_reads_at
  rw [dif_neg (by omega), dif_neg (by omega), dif_neg (by omega)]
  after_reads_at
  rw [rowOf_div, rowOf_mod, mark_word]
  exact ty_mark _ (H.DT t s) a _ (by omega)

theorem v34_na (p : Fin 16) (t : Fin 32) (s : Fin 4) :
    V m c main_v34 (ix2 1 (rowOf t s)) = num ((pose m c p).na t) := by
  unfold V V0
  after_reads_at
  after_reads_at
  rw [rowOf_div]
  rfl

theorem v34_aty (H : GoodArgs m c) (p : Fin 16) (t : Fin 32) (s : Fin 4) (a : Fin 8) :
    V m c main_v34 (ix2 ⟨2 + a, by omega⟩ (rowOf t s)) = (if a = (pose m c p).aty t s then 1 else 0 : EReal) := by
  unfold V V0
  after_reads_at
  rw [dif_neg (by omega), dif_neg (by omega)]
  after_reads_at
  rw [rowOf_div, rowOf_mod, mark_word]
  exact ty_mark _ (H.AT t s) a _ (by omega)

theorem v49_hi (p : Fin 16) (a : Fin 8) (k : Fin 13) (q : Fin 8) :
    V m c main_v49 (ix2 a ⟨8 * k + q, by omega⟩) = (pose m c p).tab k a q := by
  unfold V V0
  after_reads_at
  rw [dif_pos (by omega)]
  after_reads_at
  by_cases hk : (k : ℕ) < 11
  · rw [dif_pos hk]
    after_reads_at
    exact (tab_hi _ _ _ _ _ _ _ _ _ _ _ p a q k hk).symm
  · rw [dif_neg hk]
    after_reads_at
    exact (tab_lo _ _ _ _ _ _ _ _ _ _ _ p a q k hk).symm

theorem v49_mid (p : Fin 16) (a : Fin 8) (k : Fin 13) (q : Fin 8) :
    V m c main_v49 (ix2 a ⟨104 + (8 * k + q), by omega⟩)
      = (pose m c p).tab k a q - (pose m c p).tab k a q := by
  unfold V V0
  after_reads_at
  rw [dif_pos (show 8 * (k : ℕ) + q < 104 by omega)]
  after_reads_at
  by_cases hk : (k : ℕ) < 11
  · rw [tab_hi _ _ _ _ _ _ _ _ _ _ _ p a q k hk]
    rw [dif_pos (show _ < 11 by omega)]
    after_reads_at
  · rw [tab_lo _ _ _ _ _ _ _ _ _ _ _ p a q k hk]
    rw [dif_neg (show ¬ _ < 11 by omega)]
    after_reads_at

theorem v49_low (p : Fin 16) (a : Fin 8) (k : Fin 13) (q : Fin 8) :
    V m c main_v49 (ix2 a ⟨208 + (8 * k + q), by omega⟩)
      = (pose m c p).tab k a q - (pose m c p).tab k a q - ((pose m c p).tab k a q - (pose m c p).tab k a q) := by
  have eL : ∀ u v w (hk : (k : ℕ) < 11), u = a → v = q → w = (⟨k, hk⟩ : Fin 11) →
      m (c, Proc.tc.devRef main_arg9) (ix3 u v w) = m (c, Proc.tc.devRef main_arg9) (ix3 a q ⟨k, hk⟩) := by
    rintro _ _ _ _ rfl rfl rfl
    rfl
  have eP : ∀ u v w, u = a → v = q → w = (⟨k - 11, by omega⟩ : Fin 3) →
      m (c, Proc.tc.devRef main_arg8) (ix3 u v w) = m (c, Proc.tc.devRef main_arg8) (ix3 a q ⟨k - 11, by omega⟩) := by
    rintro _ _ _ rfl rfl rfl
    rfl
  unfold V V0
  after_reads_at
  rw [dif_neg (by omega), dif_neg (by omega)]
  after_reads_at
  by_cases hk : (k : ℕ) < 11
  · rw [tab_hi _ _ _ _ _ _ _ _ _ _ _ p a q k hk]
    rw [dif_pos (show _ < 11 by omega)]
    after_reads_at
    rw [eL _ _ _ hk rfl (Fin.ext (by simp only; omega)) (Fin.ext (by simp only; omega))]
  · rw [tab_lo _ _ _ _ _ _ _ _ _ _ _ p a q k hk]
    rw [dif_neg (show ¬ _ < 11 by omega)]
    after_reads_at
    rw [eP _ _ _ rfl (Fin.ext (by simp only; omega)) (Fin.ext (by simp only; omega))]

theorem tab_finite (H : GoodArgs m c) (p : Fin 16) (a : Fin 8) (k : Fin 13) (q : Fin 8) (hk : (k : ℕ) ≠ 11) :
    (pose m c p).tab k a q - (pose m c p).tab k a q = 0 := by
  by_cases h : (k : ℕ) < 11
  · rw [tab_hi _ _ _ _ _ _ _ _ _ _ _ p a q k h]
    exact H.PL _ _ _
  · rw [tab_lo _ _ _ _ _ _ _ _ _ _ _ p a q k h]
    have e : (⟨(k : ℕ) - 11, by omega⟩ : Fin 3) = 1 := Fin.ext (show (k : ℕ) - 11 = 1 by omega)
    rw [e]
    exact H.PP _ _

/-- A pose's blocks of the region's operands hold the pose's data. -/
theorem reads (H : GoodArgs m c) (p : Fin 16) (x9 : FVec Ideal S64x288 .bf16) (bc : FVec Ideal S64x1 .bf16)
    (br : FVec Ideal S1x64 .bf16) (rt : FVec Ideal S128x11 .bf16) (ct : FVec Ideal S10x128 .bf16)
    (pt : FVec Ideal S8x312 .bf16) (gp : FVec Ideal S1x1 .f32)
    (h0 : ∀ b l, x9 (ix2 b l) = V m c main_v8 (ix3 p b l)) (h1 : ∀ b, bc (ix2 b 0) = V m c main_v10 (ix3 p b 0))
    (h2 : ∀ b, br (ix2 0 b) = V m c main_v11 (ix3 p 0 b)) (h3 : ∀ a b, rt (ix2 a b) = V m c main_v23 (ix2 a b))
    (h4 : ∀ a b, ct (ix2 a b) = V m c main_v34 (ix2 a b)) (h5 : ∀ a b, pt (ix2 a b) = V m c main_v49 (ix2 a b))
    (h6 : gp (ix2 0 0) = V m c main_arg10 (ix2 0 0)) : Reads (pose m c p) x9 bc br rt ct pt gp where
  bc b := (h1 b).trans (v10_at H p b)
  br b := (h2 b).trans (v11_at H p b)
  dl t s := (h3 _ _).trans (v23_dl H p t s)
  nd t s := (h3 _ _).trans (v23_nd p t s)
  al t s := (h3 _ _).trans (v23_al H p t s)
  dty t s a := (h3 _ _).trans (v23_dty H p t s a)
  na t s := (h4 _ _).trans (v34_na p t s)
  aty t s a := (h4 _ _).trans (v34_aty H p t s a)
  tab a k q := (h5 _ _).trans (v49_hi p a k q)
  tmid a k q := (h5 _ _).trans (v49_mid p a k q)
  tlow a k q := (h5 _ _).trans (v49_low p a k q)
  fin a k q hk := tab_finite H p a k q hk
  xyz b l k := (h0 _ _).trans (v8_hi p b l k)
  mid b l k := (h0 _ _).trans (v8_mid p b l k)
  low b l k := (h0 _ _).trans (v8_low p b l k)
  gp := h6.trans (congrFun (V_main_arg10 m c) _)

end Cert.KernelIdeal.Inputs
end
-- ==== Proof.Value.lean ====
/- What the kernel leaves in its two result arrays: every pose's score and place. -/
module

public import proofs.«01_k».proof.Proof.Inputs

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.KernelIdeal.Inputs Cert.KernelIdeal.Pose Cert.Spec

variable {m : (ℓ : Loc nD τ sig) → Buf (Elt Ideal) ℓ} {c : Dev nD}

/-- Where every window's block of a point sits. -/
theorem idx : ∀ t : Fin cfg0.N, win0_0.index t = ![t.val, 0, 0] ∧ win0_1.index t = ![t.val, 0, 0]
    ∧ win0_2.index t = ![t.val, 0, 0] ∧ win0_3.index t = ![0, 0] ∧ win0_4.index t = ![0, 0] ∧ win0_5.index t = ![0, 0]
    ∧ win0_6.index t = ![0, 0] ∧ win0_7.index t = ![t.val, 0, 0] ∧ win0_8.index t = ![t.val, 0, 0] :=
  (by decide +kernel : ∀ t : Fin grid0.N, _)

theorem score_at (e : FVec Ideal S256x256 .f32) (x : S1x1x128.Idx) :
    score (F := Ideal) e x = ∑ i : Fin 256, ∑ j : Fin 256, e (ix2 i j) := by
  rw [show x = ix3 0 0 (x 2) from funext fun a => by
    fin_cases a
    · exact Subsingleton.elim (α := Fin 1) _ _
    · exact Subsingleton.elim (α := Fin 1) _ _
    · rfl]
  exact score_apply e (x 2)

theorem place_at (e : FVec Ideal S256x256 .f32) (x : S1x1x128.Idx) (f : Fin 65536 → EReal)
    (hf : ∀ i j : Fin 256, e (ix2 i j) = f ⟨i * 256 + j, by omega⟩) (n : Fin 65536) (hn : FirstMin f n) :
    place (F := Ideal) e x = BitVec.ofNat 32 n := by
  rw [show x = ix3 0 0 (x 2) from funext fun a => by
    fin_cases a
    · exact Subsingleton.elim (α := Fin 1) _ _
    · exact Subsingleton.elim (α := Fin 1) _ _
    · rfl]
  exact place_apply e (x 2) f hf n hn

/-- Where a point's block of the atoms' data sits in its array. -/
theorem emb0 (t : Fin cfg0.N) (s : Fin 2) (p : Fin 16) (hp : (p : ℕ) = 2 * t + s) (b : Fin 64) (l : Fin 288) :
    ((cfg0.win 0).blk t).view.emb (ix3 s b l : S2x64x288.Idx) = (ix3 p b l : S16x64x288.Idx) := by
  blk_ext [idx t]

/-- The same of the types as a column. -/
theorem emb1 (t : Fin cfg0.N) (s : Fin 2) (p : Fin 16) (hp : (p : ℕ) = 2 * t + s) (b : Fin 64) (l : Fin 1) :
    ((cfg0.win 1).blk t).view.emb (ix3 s b l : S2x64x1.Idx) = (ix3 p b l : S16x64x1.Idx) := by
  blk_ext [idx t]

/-- The same of the types as a row. -/
theorem emb2 (t : Fin cfg0.N) (s : Fin 2) (p : Fin 16) (hp : (p : ℕ) = 2 * t + s) (l : Fin 1) (b : Fin 64) :
    ((cfg0.win 2).blk t).view.emb (ix3 s l b : S2x1x64.Idx) = (ix3 p l b : S16x1x64.Idx) := by
  blk_ext [idx t]

/-- The donors' table is its own only block. -/
theorem emb3 (t : Fin cfg0.N) (i : Fin 128) (j : Fin 11) :
    ((cfg0.win 3).blk t).view.emb (ix2 i j : S128x11.Idx) = (ix2 i j : S128x11.Idx) := by
  blk_ext [idx t]

/-- The acceptors' table is its own only block. -/
theorem emb4 (t : Fin cfg0.N) (i : Fin 10) (j : Fin 128) :
    ((cfg0.win 4).blk t).view.emb (ix2 i j : S10x128.Idx) = (ix2 i j : S10x128.Idx) := by
  blk_ext [idx t]

/-- The pair table is its own only block. -/
theorem emb5 (t : Fin cfg0.N) (i : Fin 8) (j : Fin 312) :
    ((cfg0.win 5).blk t).view.emb (ix2 i j : S8x312.Idx) = (ix2 i j : S8x312.Idx) := by
  blk_ext [idx t]

/-- The global parameters are their own only block. -/
theorem emb6 (t : Fin cfg0.N) (i : Fin 1) (j : Fin 5) :
    ((cfg0.win 6).blk t).view.emb (ix2 i j : S1x5.Idx) = (ix2 i j : S1x5.Idx) := by
  blk_ext [idx t]

section
variable (x0 : Vec Ideal S2x64x288 .bf16) (x1 : Vec Ideal S2x64x1 .bf16) (x2 : Vec Ideal S2x1x64 .bf16)
  (x3 : Vec Ideal S128x11 .bf16) (x4 : Vec Ideal S10x128 .bf16) (x5 : Vec Ideal S8x312 .bf16) (x6 : Vec Ideal S1x5 .f32)

/-- Blocks that read as a pose's arrays give, in their first row, the pose's energies. -/
theorem energy0_of (H : GoodArgs m c) (p : Fin 16) (h0 : ∀ b l, x0 (ix3 0 b l) = V m c main_v8 (ix3 p b l))
    (h1 : ∀ b, x1 (ix3 0 b 0) = V m c main_v10 (ix3 p b 0)) (h2 : ∀ b, x2 (ix3 0 0 b) = V m c main_v11 (ix3 p 0 b))
    (h3 : ∀ a b, x3 (ix2 a b) = V m c main_v23 (ix2 a b)) (h4 : ∀ a b, x4 (ix2 a b) = V m c main_v34 (ix2 a b))
    (h5 : ∀ a b, x5 (ix2 a b) = V m c main_v49 (ix2 a b)) (h6 : x6 (ix2 0 0) = V m c main_arg10 (ix2 0 0)) (i j : Fin 256) :
    energy0 (F := Ideal) x0 x1 x2 x3 x4 x5 x6 (ix2 i j) = (pose m c p).energy i j := by
  refine Reads.energy_at (reads H p _ _ _ _ _ _ _ (fun b l => .trans ?_ (h0 b l)) (fun b => .trans ?_ (h1 b))
    (fun b => .trans ?_ (h2 b)) (fun a b => .trans ?_ (h3 a b)) (fun a b => .trans ?_ (h4 a b))
    (fun a b => .trans ?_ (h5 a b)) (.trans ?_ h6)) i j
  all_goals (clear h0 h1 h2 h3 h4 h5 h6 H; pointwise)

/-- The same of their second row. -/
theorem energy1_of (H : GoodArgs m c) (p : Fin 16) (h0 : ∀ b l, x0 (ix3 1 b l) = V m c main_v8 (ix3 p b l))
    (h1 : ∀ b, x1 (ix3 1 b 0) = V m c main_v10 (ix3 p b 0)) (h2 : ∀ b, x2 (ix3 1 0 b) = V m c main_v11 (ix3 p 0 b))
    (h3 : ∀ a b, x3 (ix2 a b) = V m c main_v23 (ix2 a b)) (h4 : ∀ a b, x4 (ix2 a b) = V m c main_v34 (ix2 a b))
    (h5 : ∀ a b, x5 (ix2 a b) = V m c main_v49 (ix2 a b)) (h6 : x6 (ix2 0 0) = V m c main_arg10 (ix2 0 0)) (i j : Fin 256) :
    energy1 (F := Ideal) x0 x1 x2 x3 x4 x5 x6 (ix2 i j) = (pose m c p).energy i j := by
  refine Reads.energy_at (reads H p _ _ _ _ _ _ _ (fun b l => .trans ?_ (h0 b l)) (fun b => .trans ?_ (h1 b))
    (fun b => .trans ?_ (h2 b)) (fun a b => .trans ?_ (h3 a b)) (fun a b => .trans ?_ (h4 a b))
    (fun a b => .trans ?_ (h5 a b)) (.trans ?_ h6)) i j
  all_goals (clear h0 h1 h2 h3 h4 h5 h6 H; pointwise)

end

section
variable (W : (b : Ref sig .tc) → Buf (Elt Ideal) ((c : Thread nD τ).loc b))

/-- A window's block of a point, out of any contents of the arrays. -/
def blkOf (w : Fin cfg0.W) (t : Fin cfg0.N) : ((cfg0.win w).xblock (cfg0.grid.coords t)).Idx → Elt Ideal (cfg0.win w).elt :=
  ((cfg0.win w).blk t).view.read (Elt Ideal) (W (Pipeline.arrRef spec0 w))

theorem rd0 (t : Fin cfg0.N) (s : Fin 2) (p : Fin 16) (hp : (p : ℕ) = 2 * t + s) (b : Fin 64) (l : Fin 288) :
    blkOf W 0 t (ix3 s b l : S2x64x288.Idx) = W main_v8 (ix3 p b l) :=
  congrArg (W main_v8) (emb0 t s p hp b l)

theorem rd1 (t : Fin cfg0.N) (s : Fin 2) (p : Fin 16) (hp : (p : ℕ) = 2 * t + s) (b : Fin 64) (l : Fin 1) :
    blkOf W 1 t (ix3 s b l : S2x64x1.Idx) = W main_v10 (ix3 p b l) :=
  congrArg (W main_v10) (emb1 t s p hp b l)

theorem rd2 (t : Fin cfg0.N) (s : Fin 2) (p : Fin 16) (hp : (p : ℕ) = 2 * t + s) (b : Fin 1) (l : Fin 64) :
    blkOf W 2 t (ix3 s b l : S2x1x64.Idx) = W main_v11 (ix3 p b l) :=
  congrArg (W main_v11) (emb2 t s p hp b l)

theorem rd3 (t : Fin cfg0.N) (i : Fin 128) (j : Fin 11) :
    blkOf W 3 t (ix2 i j : S128x11.Idx) = W main_v23 (ix2 i j) :=
  congrArg (W main_v23) (emb3 t i j)

theorem rd4 (t : Fin cfg0.N) (i : Fin 10) (j : Fin 128) :
    blkOf W 4 t (ix2 i j : S10x128.Idx) = W main_v34 (ix2 i j) :=
  congrArg (W main_v34) (emb4 t i j)

theorem rd5 (t : Fin cfg0.N) (i : Fin 8) (j : Fin 312) :
    blkOf W 5 t (ix2 i j : S8x312.Idx) = W main_v49 (ix2 i j) :=
  congrArg (W main_v49) (emb5 t i j)

theorem rd6 (t : Fin cfg0.N) (i : Fin 1) (j : Fin 5) :
    blkOf W 6 t (ix2 i j : S1x5.Idx) = W main_arg10 (ix2 i j) :=
  congrArg (W main_arg10) (emb6 t i j)

/-- The energies of the first pose of a point's blocks, of any contents that are the program's. -/
theorem energy0_blk (hW : ∀ b, W b = V m c b) (H : GoodArgs m c) (t : Fin cfg0.N) (p : Fin 16) (hp : (p : ℕ) = 2 * t)
    (i j : Fin 256) : energy0 (F := Ideal) (blkOf W 0 t) (blkOf W 1 t) (blkOf W 2 t) (blkOf W 3 t) (blkOf W 4 t) (blkOf W 5 t)
      (blkOf W 6 t) (ix2 i j) = (pose m c p).energy i j :=
  energy0_of _ _ _ _ _ _ _ H p (fun b l => (rd0 W t 0 p hp b l).trans (congrFun (hW main_v8) _))
    (fun b => (rd1 W t 0 p hp b 0).trans (congrFun (hW main_v10) _))
    (fun b => (rd2 W t 0 p hp 0 b).trans (congrFun (hW main_v11) _))
    (fun a b => (rd3 W t a b).trans (congrFun (hW main_v23) _)) (fun a b => (rd4 W t a b).trans (congrFun (hW main_v34) _))
    (fun a b => (rd5 W t a b).trans (congrFun (hW main_v49) _)) ((rd6 W t 0 0).trans (congrFun (hW main_arg10) _)) i j

/-- The energies of the second pose of a point's blocks, of any contents that are the program's. -/
theorem energy1_blk (hW : ∀ b, W b = V m c b) (H : GoodArgs m c) (t : Fin cfg0.N) (p : Fin 16) (hp : (p : ℕ) = 2 * t + 1)
    (i j : Fin 256) : energy1 (F := Ideal) (blkOf W 0 t) (blkOf W 1 t) (blkOf W 2 t) (blkOf W 3 t) (blkOf W 4 t) (blkOf W 5 t)
      (blkOf W 6 t) (ix2 i j) = (pose m c p).energy i j :=
  energy1_of _ _ _ _ _ _ _ H p (fun b l => (rd0 W t 1 p hp b l).trans (congrFun (hW main_v8) _))
    (fun b => (rd1 W t 1 p hp b 0).trans (congrFun (hW main_v10) _))
    (fun b => (rd2 W t 1 p hp 0 b).trans (congrFun (hW main_v11) _))
    (fun a b => (rd3 W t a b).trans (congrFun (hW main_v23) _)) (fun a b => (rd4 W t a b).trans (congrFun (hW main_v34) _))
    (fun a b => (rd5 W t a b).trans (congrFun (hW main_v49) _)) ((rd6 W t 0 0).trans (congrFun (hW main_arg10) _)) i j

end

/-- The first pose of a point's blocks. -/
theorem energy0_at (H : GoodArgs m c) (t : Fin cfg0.N) (p : Fin 16) (hp : (p : ℕ) = 2 * t) (i j : Fin 256) :
    energy0 (F := Ideal) (iblk m c 0 t) (iblk m c 1 t) (iblk m c 2 t) (iblk m c 3 t) (iblk m c 4 t) (iblk m c 5 t)
      (iblk m c 6 t) (ix2 i j) = (pose m c p).energy i j := by
  have h := energy0_blk (fun b => V m c b) (fun _ => rfl) H t p hp i j
  exact h

/-- The second pose of a point's blocks. -/
theorem energy1_at (H : GoodArgs m c) (t : Fin cfg0.N) (p : Fin 16) (hp : (p : ℕ) = 2 * t + 1) (i j : Fin 256) :
    energy1 (F := Ideal) (iblk m c 0 t) (iblk m c 1 t) (iblk m c 2 t) (iblk m c 3 t) (iblk m c 4 t) (iblk m c 5 t)
      (iblk m c 6 t) (ix2 i j) = (pose m c p).energy i j := by
  have h := energy1_blk (fun b => V m c b) (fun _ => rfl) H t p hp i j
  exact h

/-- The array of scores when the region has ended. -/
theorem final7 (H : GoodArgs m c) : (dats m 0 c).arrAt 7 (cfgs 0).N = fun i : S16x1x128.Idx => (pose m c (i 0)).score := by
  refine (dats m 0 c).arrAt_eq_of_covers 7 _ (by decide +kernel) fun t _ y => ?_
  blk_simp
  rw [after0_7, out7_eq]
  canon_tiles x h
  · rw [score_at]
    refine Finset.sum_congr rfl fun i _ => Finset.sum_congr rfl fun j _ => energy1_at H t _ ?_ i j
    blk_simp [idx t]
    omega
  · rw [score_at]
    refine Finset.sum_congr rfl fun i _ => Finset.sum_congr rfl fun j _ => energy0_at H t _ ?_ i j
    blk_simp [idx t]
    omega

/-- The array of places when the region has ended. -/
theorem final8 (H : GoodArgs m c) : (dats m 0 c).arrAt 8 (cfgs 0).N = fun i : S16x1x128.Idx => (pose m c (i 0)).place := by
  refine (dats m 0 c).arrAt_eq_of_covers 8 _ (by decide +kernel) fun t _ y => ?_
  blk_simp
  rw [after0_8, out8_eq]
  canon_tiles x h
  · refine place_at _ x _ (fun i j => ?_) _ (exists_firstMin (pose m c _).flat).choose_spec
    rw [Pose.flat_at]
    refine energy1_at H t _ ?_ i j
    blk_simp [idx t]
    omega
  · refine place_at _ x _ (fun i j => ?_) _ (exists_firstMin (pose m c _).flat).choose_spec
    rw [Pose.flat_at]
    refine energy0_at H t _ ?_ i j
    blk_simp [idx t]
    omega

end Cert.KernelIdeal.Value
end
-- ==== Proof.Tail.lean ====
/- The kernel's results: the arrays its region leaves, cut to their first column. -/
module

public import proofs.«01_k».proof.Proof.Value

@[expose] public section

set_option maxRecDepth 16384

noncomputable section

namespace Cert.KernelIdeal.Value

open Idealize.ShloMosaic Idealize.ShloMosaic.TcCoe Idealize.SL.Sem
open Cert.KernelIdeal Cert.KernelIdeal.Gen Cert.Spec Cert.KernelIdeal.Inputs

variable {m : (ℓ : Loc nD τ sig) → Buf (Elt Ideal) ℓ} {c : Dev nD}

/-- The first column of an array of rows. -/
theorem column {α : Type} (v : S16x1x128.Idx → α) (i : S16.Idx) :
    shapeCast S16 (extractStridedSlice S16x1x1 ![0, 0, 0] v slices_S16x1x128_S16x1x1_0_0_0) shapeCasts_S16x1x1_S16 i
      = v (ix3 (i 0) 0 0) := by
  obtain ⟨a, rfl⟩ : ∃ a : Fin 16, i = ix1 a := ⟨i 0, by funext b; fin_cases b; rfl⟩
  pointwise

/-- The host operations after the region, of any contents: the first columns of the region's two results. -/
theorem tail_scores (W : Valuation τ sig (Elt Ideal)) : StableHlo.after [hostOps1 (F := Ideal)].flatten W (Proc.devRef .tc main_v52)
    = shapeCast S16 (extractStridedSlice S16x1x1 ![0, 0, 0] (W (Proc.devRef .tc main_v50_0) : FVec Ideal S16x1x128 .f32)
        slices_S16x1x128_S16x1x1_0_0_0) shapeCasts_S16x1x1_S16 := by
  rfl

theorem tail_places (W : Valuation τ sig (Elt Ideal)) : StableHlo.after [hostOps1 (F := Ideal)].flatten W (Proc.devRef .tc main_v54)
    = shapeCast S16 (extractStridedSlice S16x1x1 ![0, 0, 0] (W (Proc.devRef .tc main_v50_1) : IVec S16x1x128 32)
        slices_S16x1x128_S16x1x1_0_0_0) shapeCasts_S16x1x1_S16 := by
  rfl

/-- The scores the program returns. -/
theorem scores (H : GoodArgs m c) : Pipeline.afterTail₀ cfgs (dats m) 0 (V0 m) [hostOps1] c main_v52
    = fun i : S16.Idx => (pose m c (i 0)).score := by
  refine (tail_scores _).trans (funext fun i => (column _ i).trans ?_)
  have h : Pipeline.withArrays (cfgs 0).spec c (V0 m c) (fun w => (dats m 0 c).arrAt w (cfgs 0).N) (Proc.devRef .tc main_v50_0)
      = (dats m 0 c).arrAt 7 (cfgs 0).N :=
    Pipeline.withArrays_arr (cfgs 0).spec (by exact (by decide : Function.Injective (Pipeline.arrRef spec0))) c (V0 m c)
      (fun w => (dats m 0 c).arrAt w (cfgs 0).N) 7
  exact congrFun (h.trans (final7 H)) _

/-- The places the program returns. -/
theorem places (H : GoodArgs m c) : Pipeline.afterTail₀ cfgs (dats m) 0 (V0 m) [hostOps1] c main_v54
    = fun i : S16.Idx => (pose m c (i 0)).place := by
  refine (tail_places _).trans (funext fun i => (column _ i).trans ?_)
  have h : Pipeline.withArrays (cfgs 0).spec c (V0 m c) (fun w => (dats m 0 c).arrAt w (cfgs 0).N) (Proc.devRef .tc main_v50_1)
      = (dats m 0 c).arrAt 8 (cfgs 0).N :=
    Pipeline.withArrays_arr (cfgs 0).spec (by exact (by decide : Function.Injective (Pipeline.arrRef spec0))) c (V0 m c)
      (fun w => (dats m 0 c).arrAt w (cfgs 0).N) 8
  exact congrFun (h.trans (final8 H)) _

end Cert.KernelIdeal.Value
end
-- ==== Proof.Algebraic.lean ====
/- The kernel and the reference, started at the same well-formed arguments, leave the same results: the score of every pose
   and the place of its least energy. -/
module

public import proofs.«01_k».proof.Defs
public import proofs.«01_k».proof.Proof.Gen.Kernel
public import proofs.«01_k».proof.Proof.Gen.KernelIdeal
public import proofs.«01_k».proof.Proof.Decode
public import proofs.«01_k».proof.Proof.RefRun
public import proofs.«01_k».proof.Proof.RefRead
public import proofs.«01_k».proof.Proof.RefArgmin
public import proofs.«01_k».proof.Proof.Tail
public import Idealize.ShloMosaic.Lib.Claim

@[expose] public section

set_option maxRecDepth 16384

noncomputable section

namespace Cert.ReferenceIdeal.Ref

open Idealize.ShloMosaic Cert.ReferenceIdeal Cert.ReferenceIdeal.Gen Cert.Spec

variable {X : FVec Ideal S16x2048x3 .f32} {B : IVec S16x64 32} {ND NA : IVec S32 32} {DL AL DT AT : IVec S32x4 32}
  {PP : FVec Ideal S8x8x3 .f32} {PL : FVec Ideal S8x8x11 .f32} {GP : FVec Ideal S1x5 .f32}
  (H : Good B DL AL DT AT PP PL)
include H

/-- The reference's scores are the poses' scores. -/
theorem scores_eq : score (energy X B ND NA DL AL DT AT PP PL GP)
    = fun i : S16.Idx => (poseOf X B ND NA DL AL DT AT PP PL GP (i 0)).score := by
  funext i
  obtain ⟨p, rfl⟩ : ∃ p : Fin 16, i = ix1 p := ⟨i 0, by funext b; fin_cases b; rfl⟩
  rw [score_at]
  exact Finset.sum_congr rfl fun i _ => Finset.sum_congr rfl fun j _ => energy_at H p i j

/-- The reference's places are the poses' places. -/
theorem places_eq : place (energy X B ND NA DL AL DT AT PP PL GP)
    = fun i : S16.Idx => (poseOf X B ND NA DL AL DT AT PP PL GP (i 0)).place := by
  funext i
  obtain ⟨p, rfl⟩ : ∃ p : Fin 16, i = ix1 p := ⟨i 0, by funext b; fin_cases b; rfl⟩
  refine place_at _ p _ ?_
  have h := (exists_firstMin (poseOf X B ND NA DL AL DT AT PP PL GP p).flat).choose_spec
  have e : (fun k : Fin 65536 => energy X B ND NA DL AL DT AT PP PL GP (ix3 p ⟨k / 256, by omega⟩ ⟨k % 256, by omega⟩))
      = (poseOf X B ND NA DL AL DT AT PP PL GP p).flat := funext fun k => energy_at H p _ _
  rw [e]
  exact h

end Cert.ReferenceIdeal.Ref

namespace Cert.Proof

open Idealize.ShloMosaic Idealize.SL.Sem Idealize.ShloMosaic.TcCoe

/-- The kernel and the reference. -/
theorem algebraic : Cert.algebraic_KernelIdeal_ReferenceIdeal_pre_well_formed
    (hKernelIdeal := Cert.KernelIdeal.Gen.facts) (hReferenceIdeal := Cert.ReferenceIdeal.Gen.facts)
    (hPre_well_formed := Cert.Pre_well_formed.Gen.facts) := by
  intro m g m' g' hpre hagree
  have H : ∀ c, Cert.KernelIdeal.Inputs.GoodArgs m c := fun c => Cert.Pre_well_formed.good_of_fn _ _ _ _ _ _ _ _ _ _ _ (hpre c)
  refine ⟨fun c => (fun i : Cert.KernelIdeal.S16.Idx => (Cert.KernelIdeal.Inputs.pose m c (i 0)).score),
    fun c => (fun i : Cert.KernelIdeal.S16.Idx => (Cert.KernelIdeal.Inputs.pose m c (i 0)).place), ?_, ?_⟩
  · run_from Cert.KernelIdeal.Gen.run_main m g & Cert.KernelIdeal.Gen.unchanged m g
    · exact Cert.KernelIdeal.Value.scores (H c)
    · exact Cert.KernelIdeal.Value.places (H c)
  · refine (θ_run _ _ _).mono (fun r hr c => ?_) (Cert.ReferenceIdeal.Ref.run m' g')
    obtain ⟨h0, h1, hargs⟩ := hr c
    obtain ⟨a0, a1, a2, a3, a4, a5, a6, a7, a8, a9, a10⟩ := hagree c
    have e : Cert.ReferenceIdeal.Ref.energies m' c = Cert.ReferenceIdeal.Ref.energy
        (m (c.tc.loc Cert.KernelIdeal.main_arg0)) (m (c.tc.loc Cert.KernelIdeal.main_arg1))
        (m (c.tc.loc Cert.KernelIdeal.main_arg2)) (m (c.tc.loc Cert.KernelIdeal.main_arg3))
        (m (c.tc.loc Cert.KernelIdeal.main_arg4)) (m (c.tc.loc Cert.KernelIdeal.main_arg5))
        (m (c.tc.loc Cert.KernelIdeal.main_arg6)) (m (c.tc.loc Cert.KernelIdeal.main_arg7))
        (m (c.tc.loc Cert.KernelIdeal.main_arg8)) (m (c.tc.loc Cert.KernelIdeal.main_arg9))
        (m (c.tc.loc Cert.KernelIdeal.main_arg10)) := by
      rw [Cert.ReferenceIdeal.Ref.energies, a0, a1, a2, a3, a4, a5, a6, a7, a8, a9, a10]
    rw [e] at h0 h1
    exact ⟨h0.trans (Cert.ReferenceIdeal.Ref.scores_eq (H c)), h1.trans (Cert.ReferenceIdeal.Ref.places_eq (H c)), hargs⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_well_formed
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The whole claim: the frames, the preservation and the equality of the kernel's results and the reference's. -/
theorem claim : Cert.Claim := ⟨Cert.Kernel.Gen.facts, Cert.KernelIdeal.Gen.facts, Cert.ReferenceIdeal.Gen.facts, Cert.Pre_well_formed.Gen.facts,
  frame_kernel, frame_kernelIdeal, frame_kernelIdeal_pre, frame_reference, frame_reference_pre, trivial, algebraic⟩

end Cert.Proof

end
